-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  IdealRules.named_const.Statement Cert.KernelIdeal.κ "log_gamma_0" .f32 0xBD020AEC#32 ((Real.log (31 / 32) : ℝ) : EReal)
  ∧ IdealRules.named_const.Statement Cert.KernelIdeal.κ "log_gamma_1" .f32 0xBC8102B3#32 ((Real.log (63 / 64) : ℝ) : EReal)
  ∧ IdealRules.named_const.Statement Cert.KernelIdeal.κ "log_gamma_2" .f32 0xBC0080AC#32 ((Real.log (127 / 128) : ℝ) : EReal)
  ∧ IdealRules.named_const.Statement Cert.KernelIdeal.κ "log_gamma_3" .f32 0xBB80402B#32 ((Real.log (255 / 256) : ℝ) : EReal)
  ∧ IdealRules.named_const.Statement Cert.KernelIdeal.κ "gamma_0_256" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "gamma_1_256" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "gamma_2_256" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "gamma_3_256" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16_3)) (v1 : (c : Dev Cert.KernelIdeal.nD) → Buf (Elt Ideal) ((c.tc : Thread Cert.KernelIdeal.nD Cert.KernelIdeal.τ).loc Cert.KernelIdeal.main_v16_0)) (v2 : (c : Dev Cert.KernelIdeal.nD) → Buf (Elt Ideal) ((c.tc : Thread Cert.KernelIdeal.nD Cert.KernelIdeal.τ).loc Cert.KernelIdeal.main_v16_1)) (v3 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_3) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_v16_1) = v2 c
          ∧ r.2.mem ((c.tc : Thread Cert.KernelIdeal.nD Cert.KernelIdeal.τ).loc Cert.KernelIdeal.main_v16_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_v221) = v1 c
          ∧ r.2.mem ((c.tc : Thread Cert.ReferenceIdeal.nD Cert.ReferenceIdeal.τ).loc Cert.ReferenceIdeal.main_v223) = v2 c
          ∧ r.2.mem ((c.tc : Thread Cert.ReferenceIdeal.nD Cert.ReferenceIdeal.τ).loc Cert.ReferenceIdeal.main_v224) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_v88) = v1 c
          ∧ r.2.mem ((c.tc : Thread Cert.Reference2Ideal.nD Cert.Reference2Ideal.τ).loc Cert.Reference2Ideal.main_v89) = v2 c
          ∧ r.2.mem ((c.tc : Thread Cert.Reference2Ideal.nD Cert.Reference2Ideal.τ).loc Cert.Reference2Ideal.main_v90) = v3 c
          ∧ r.2.mem ((c.tc : Thread Cert.Reference2Ideal.nD Cert.Reference2Ideal.τ).loc Cert.Reference2Ideal.main_v91) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_all_finite : Cert.Pre_all_finite.Facts) (hPre_all_finite2 : Cert.Pre_all_finite2.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
-- ==== Pre_all_finite.lean ====
abbrev S2x8192x1024 : Shape := ⟨3, ![2, 8192, 1024]⟩
abbrev S2x8192 : Shape := ⟨2, ![2, 8192]⟩
abbrev S1x1024 : Shape := ⟨2, ![1, 1024]⟩
abbrev S1x1024x4096 : Shape := ⟨3, ![1, 1024, 4096]⟩
abbrev S1x256 : Shape := ⟨2, ![1, 256]⟩
abbrev S1x1536x1024 : Shape := ⟨3, ![1, 1536, 1024]⟩
abbrev S2x2x512x256 : Shape := ⟨4, ![2, 2, 512, 256]⟩
abbrev S2x2x256x512 : Shape := ⟨4, ![2, 2, 256, 512]⟩
abbrev S2x128 : Shape := ⟨2, ![2, 128]⟩
abbrev S1x1024x3072 : Shape := ⟨3, ![1, 1024, 3072]⟩
abbrev S1024x2048 : Shape := ⟨2, ![1024, 2048]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S2x2x512x256 : S_.BroadcastsInDim S2x2x512x256 (![] : Fin 0 → Fin S2x2x512x256.rank)
  reducesTo_S2x2x512x256_S_d0_1_2_3 : S2x2x512x256.ReducesTo [0, 1, 2, 3] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg8 : FVec F S2x128 .f32) (main_v14 : IVec S_ 1) (main_v16 : FVec F S2x2x512x256 .f32) (main_cst_4 : FVec F S_ .f32) : IVec S_ 1 :=
  let main_v17 : FVec F S2x2x512x256 .f32 := broadcastInDim S2x2x512x256 ![] bcast_S_S2x2x512x256 main_cst_4
  let main_v18 : IVec S2x2x512x256 1 := cmpf .olt main_v16 main_v17
  let main_c_5 : IVec S_ 1 := constantI S_ 1 1#1
  let main_v19 : IVec S_ 1 := (fun x v => Host.reduce IntOp.andi x v reducesTo_S2x2x512x256_S_d0_1_2_3 h_S_) main_v18 main_c_5
  let main_v20 : IVec S_ 1 := andi main_v14 main_v19
  let main_v21 : FVec F S2x128 .f32 := Host.absf main_arg8
  let main_cst_6 : FVec F S_ .f32 := constant S_ .f32 0x7F800000#32
  let main_v22 : FVec F S2x128 .f32 := broadcastInDim S2x128 ![] bcast_S_S2x128 main_cst_6
  let main_v23 : IVec S2x128 1 := cmpf .olt main_v21 main_v22
  let main_c_7 : IVec S_ 1 := constantI S_ 1 1#1
  let main_v24 : IVec S_ 1 := (fun x v => Host.reduce IntOp.andi x v reducesTo_S2x128_S_d0_1 h_S_) main_v23 main_c_7
  let main_v25 : IVec S_ 1 := andi main_v20 main_v24
  main_v25

def fn {F : FTy → Type} [FloatOps F] (main_arg0 : FVec F S2x8192x1024 .f32) (main_arg1 : IVec S2x8192 32) (main_arg2 : FVec F S1x1024 .f32) (main_arg3 : FVec F S1x1024x4096 .bf16) (main_arg4 : FVec F S1x256 .f32) (main_arg5 : FVec F S1x1536x1024 .bf16) (main_arg6 : FVec F S2x2x512x256 .bf16) (main_arg7 : FVec F S2x2x256x512 .bf16) (main_arg8 : FVec F S2x128 .f32) (main_arg9 : FVec F S1x1024x3072 .f32) (main_arg10 : FVec F S1x1536x1024 .f32) (main_arg11 : FVec F S1024x2048 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x4096 .f32 := (extf .f32 · bitsLt_bf16_f32) main_arg3
  let main_v10 : FVec F S1x1024x4096 .f32 := Host.absf main_v9
  let main_cst_2 : FVec F S_ .f32 := constant S_ .f32 0x7F800000#32
  let main_v11 : FVec F S1x1024x4096 .f32 := broadcastInDim S1x1024x4096 ![] bcast_S_S1x1024x4096 main_cst_2
  let main_v12 : IVec S1x1024x4096 1 := cmpf .olt main_v10 main_v11
  let main_c_3 : IVec S_ 1 := constantI S_ 1 1#1
  let main_v13 : IVec S_ 1 := (fun x v => Host.reduce IntOp.andi x v reducesTo_S1x1024x4096_S_d0_1_2 h_S_) main_v12 main_c_3
  let main_v14 : IVec S_ 1 := andi main_v8 main_v13
  let main_v15 : FVec F S2x2x512x256 .f32 := (extf .f32 · bitsLt_bf16_f32) main_arg6
  let main_v16 : FVec F S2x2x512x256 .f32 := Host.absf main_v15
  let main_cst_4 : FVec F S_ .f32 := constant S_ .f32 0x7F800000#32
  fn_part1 (F := F) main_arg8 main_v14 main_v16 main_cst_4
-- ==== Pre_all_finite2.lean ====
abbrev S2x8192x1024 : Shape := ⟨3, ![2, 8192, 1024]⟩
abbrev S1024 : Shape := ⟨1, ![1024]⟩
abbrev S1x1024 : Shape := ⟨2, ![1, 1024]⟩
abbrev S1024x2048 : Shape := ⟨2, ![1024, 2048]⟩
abbrev S1x1024x3072 : Shape := ⟨3, ![1, 1024, 3072]⟩
abbrev S2x2x512x256 : Shape := ⟨4, ![2, 2, 512, 256]⟩
abbrev S2x2x256x512 : Shape := ⟨4, ![2, 2, 256, 512]⟩
abbrev S2x128 : Shape := ⟨2, ![2, 128]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1x1024x3072 : S_.BroadcastsInDim S1x1024x3072 (![] : Fin 0 → Fin S1x1024x3072.rank)
  reducesTo_S1x1024x3072_S_d0_1_2 : S1x1024x3072.ReducesTo [0, 1, 2] S_
  bcast_S_S2x2x512x256 : S_.BroadcastsInDim S2x2x512x256 (![] : Fin 0 → Fin S2x2x512x256.rank)
  reducesTo_S2x2x512x256_S_d0_1_2_3 : S2x2x512x256.ReducesTo [0, 1, 2, 3] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg7 : FVec F S2x128 .f32) (main_v14 : IVec S_ 1) (main_v16 : FVec F S2x2x512x256 .f32) (main_cst_4 : FVec F S_ .f32) : IVec S_ 1 :=
  let main_v17 : FVec F S2x2x512x256 .f32 := broadcastInDim S2x2x512x256 ![] bcast_S_S2x2x512x256 main_cst_4
  let main_v18 : IVec S2x2x512x256 1 := cmpf .olt main_v16 main_v17
  let main_c_5 : IVec S_ 1 := constantI S_ 1 1#1
  let main_v19 : IVec S_ 1 := (fun x v => Host.reduce IntOp.andi x v reducesTo_S2x2x512x256_S_d0_1_2_3 h_S_) main_v18 main_c_5
  let main_v20 : IVec S_ 1 := andi main_v14 main_v19
  let main_v21 : FVec F S2x128 .f32 := Host.absf main_arg7
  let main_cst_6 : FVec F S_ .f32 := constant S_ .f32 0x7F800000#32
  let main_v22 : FVec F S2x128 .f32 := broadcastInDim S2x128 ![] bcast_S_S2x128 main_cst_6
  let main_v23 : IVec S2x128 1 := cmpf .olt main_v21 main_v22
  let main_c_7 : IVec S_ 1 := constantI S_ 1 1#1
  let main_v24 : IVec S_ 1 := (fun x v => Host.reduce IntOp.andi x v reducesTo_S2x128_S_d0_1 h_S_) main_v23 main_c_7
  let main_v25 : IVec S_ 1 := andi main_v20 main_v24
  main_v25

def fn {F : FTy → Type} [FloatOps F] (main_arg0 : FVec F S2x8192x1024 .f32) (main_arg1 : FVec F S1024 .f32) (main_arg2 : FVec F S1x1024 .f32) (main_arg3 : FVec F S1024x2048 .bf16) (main_arg4 : FVec F S1x1024x3072 .bf16) (main_arg5 : FVec F S2x2x512x256 .bf16) (main_arg6 : FVec F S2x2x256x512 .bf16) (main_arg7 : FVec F S2x128 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x3072 .f32 := (extf .f32 · bitsLt_bf16_f32) main_arg4
  let main_v10 : FVec F S1x1024x3072 .f32 := Host.absf main_v9
  let main_cst_2 : FVec F S_ .f32 := constant S_ .f32 0x7F800000#32
  let main_v11 : FVec F S1x1024x3072 .f32 := broadcastInDim S1x1024x3072 ![] bcast_S_S1x1024x3072 main_cst_2
  let main_v12 : IVec S1x1024x3072 1 := cmpf .olt main_v10 main_v11
  let main_c_3 : IVec S_ 1 := constantI S_ 1 1#1
  let main_v13 : IVec S_ 1 := (fun x v => Host.reduce IntOp.andi x v reducesTo_S1x1024x3072_S_d0_1_2 h_S_) main_v12 main_c_3
  let main_v14 : IVec S_ 1 := andi main_v8 main_v13
  let main_v15 : FVec F S2x2x512x256 .f32 := (extf .f32 · bitsLt_bf16_f32) main_arg5
  let main_v16 : FVec F S2x2x512x256 .f32 := Host.absf main_v15
  let main_cst_4 : FVec F S_ .f32 := constant S_ .f32 0x7F800000#32
  fn_part1 (F := F) main_arg7 main_v14 main_v16 main_cst_4
-- ==== Kernel.lean ====
abbrev S2x8192x1024 : Shape := ⟨3, ![2, 8192, 1024]⟩
abbrev S2x8192 : Shape := ⟨2, ![2, 8192]⟩
abbrev S1x1024 : Shape := ⟨2, ![1, 1024]⟩
abbrev S1x1024x4096 : Shape := ⟨3, ![1, 1024, 4096]⟩
abbrev S1x256 : Shape := ⟨2, ![1, 256]⟩
abbrev S1x1536x1024 : Shape := ⟨3, ![1, 1536, 1024]⟩
abbrev S2x2x512x256 : Shape := ⟨4, ![2, 2, 512, 256]⟩
abbrev S2x2x256x512 : Shape := ⟨4, ![2, 2, 256, 512]⟩
abbrev S2x128 : Shape := ⟨2, ![2, 128]⟩
abbrev S1x1024x3072 : Shape := ⟨3, ![1, 1024, 3072]⟩
abbrev S1024x2048 : Shape := ⟨2, ![1024, 2048]⟩
abbrev S64 : Shape := ⟨1, ![64]⟩
abbrev S_ : Shape := ⟨0, ![]⟩
abbrev S64x1 : Shape := ⟨2, ![64, 1]⟩
abbrev S2x1x8192 : Shape := ⟨3, ![2, 1, 8192]⟩
abbrev S1024x3072 : Shape := ⟨2, ![1024, 3072]⟩
abbrev S1536x1024 : Shape := ⟨2, ![1536, 1024]⟩
abbrev S1x1x1024 : Shape := ⟨3, ![1, 1, 1024]⟩
abbrev S1x1x256 : Shape := ⟨3, ![1, 1, 256]⟩
abbrev S2x1x128 : Shape := ⟨3, ![2, 1, 128]⟩
abbrev S64x3072 : Shape := ⟨2, ![64, 3072]⟩
abbrev S96x1024 : Shape := ⟨2, ![96, 1024]⟩
abbrev S64x2048 : Shape := ⟨2, ![64, 2048]⟩
abbrev S1x1024x1024 : Shape := ⟨3, ![1, 1024, 1024]⟩
abbrev S1x1x512x256 : Shape := ⟨4, ![1, 1, 512, 256]⟩
abbrev S1x1x256x512 : Shape := ⟨4, ![1, 1, 256, 512]⟩
abbrev S1x1x128 : Shape := ⟨3, ![1, 1, 128]⟩
abbrev S4x128x256 : Shape := ⟨3, ![4, 128, 256]⟩
abbrev S1x128x256 : Shape := ⟨3, ![1, 128, 256]⟩
abbrev S128x256 : Shape := ⟨2, ![128, 256]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S64x1024 : Shape := ⟨2, ![64, 1024]⟩
abbrev S128x1024 : Shape := ⟨2, ![128, 1024]⟩
abbrev S1024x128 : Shape := ⟨2, ![1024, 128]⟩
abbrev S256x256 : Shape := ⟨2, ![256, 256]⟩
abbrev S256x128 : Shape := ⟨2, ![256, 128]⟩
abbrev S1x128 : Shape := ⟨2, ![1, 128]⟩
abbrev S1x1x128x256 : Shape := ⟨4, ![1, 1, 128, 256]⟩
abbrev S1x1x256x128 : Shape := ⟨4, ![1, 1, 256, 128]⟩
abbrev S256x1536 : Shape := ⟨2, ![256, 1536]⟩
abbrev S1x1536x256 : Shape := ⟨3, ![1, 1536, 256]⟩
abbrev S1536x256 : Shape := ⟨2, ![1536, 256]⟩
abbrev S1x256x256 : Shape := ⟨3, ![1, 256, 256]⟩

abbrev nBuf : Space → Nat
  | .hbm => 35
  | .vmem => 29
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1x1024, .f32⟩
  | .hbm, ⟨3, _⟩ => ⟨S1x1024x4096, .bf16⟩
  | .hbm, ⟨4, _⟩ => ⟨S1x256, .f32⟩
  | .hbm, ⟨5, _⟩ => ⟨S1x1536x1024, .bf16⟩
  | .hbm, ⟨6, _⟩ => ⟨S2x2x512x256, .bf16⟩
  | .hbm, ⟨7, _⟩ => ⟨S2x2x256x512, .bf16⟩
  | .hbm, ⟨8, _⟩ => ⟨S2x128, .f32⟩
  | .hbm, ⟨9, _⟩ => ⟨S1x1024x3072, .f32⟩
  | .hbm, ⟨10, _⟩ => ⟨S1x1536x1024, .f32⟩
  | .hbm, ⟨11, _⟩ => ⟨S1024x2048, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64x1, .f32⟩
  | .hbm, ⟨24, _⟩ => ⟨S2x8192, .f32⟩
  | .hbm, ⟨25, _⟩ => ⟨S2x1x8192, .f32⟩
  | .hbm, ⟨26, _⟩ => ⟨S1024x3072, .f32⟩
  | .hbm, ⟨27, _⟩ => ⟨S1536x1024, .f32⟩
  | .hbm, ⟨28, _⟩ => ⟨S1x1x1024, .f32⟩
  | .hbm, ⟨29, _⟩ => ⟨S1x1x256, .f32⟩
  | .hbm, ⟨30, _⟩ => ⟨S2x1x128, .f32⟩
  | .hbm, ⟨31, _⟩ => ⟨S1024x3072, .bf16⟩
  | .hbm, ⟨32, _⟩ => ⟨S1536x1024, .bf16⟩
  | .hbm, ⟨33, _⟩ => ⟨S1024x2048, .bf16⟩
  | .hbm, ⟨34, _⟩ => ⟨S2x8192x1024, .f32⟩
  | .local _ .vmem, ⟨0, _⟩ => ⟨S64x3072, .f32⟩
  | .local _ .vmem, ⟨1, _⟩ => ⟨S64x3072, .f32⟩
  | .local _ .vmem, ⟨2, _⟩ => ⟨S96x1024, .f32⟩
  | .local _ .vmem, ⟨3, _⟩ => ⟨S96x1024, .f32⟩
  | .local _ .vmem, ⟨4, _⟩ => ⟨S64x2048, .f32⟩
  | .local _ .vmem, ⟨5, _⟩ => ⟨S64x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S64x1, .f32⟩
  | .local _ .vmem, ⟨11, _⟩ => ⟨S1x1x1024, .f32⟩
  | .local _ .vmem, ⟨12, _⟩ => ⟨S1x1024x4096, .bf16⟩
  | .local _ .vmem, ⟨13, _⟩ => ⟨S1x1x256, .f32⟩
  | .local _ .vmem, ⟨14, _⟩ => ⟨S1x1536x1024, .bf16⟩
  | .local _ .vmem, ⟨15, _⟩ => ⟨S1x1x512x256, .bf16⟩
  | .local _ .vmem, ⟨16, _⟩ => ⟨S1x1x512x256, .bf16⟩
  | .local _ .vmem, ⟨17, _⟩ => ⟨S1x1x256x512, .bf16⟩
  | .local _ .vmem, ⟨18, _⟩ => ⟨S1x1x256x512, .bf16⟩
  | .local _ .vmem, ⟨19, _⟩ => ⟨S1x1x128, .f32⟩
  | .local _ .vmem, ⟨20, _⟩ => ⟨S64x3072, .bf16⟩
  | .local _ .vmem, ⟨21, _⟩ => ⟨S64x3072, .bf16⟩
  | .local _ .vmem, ⟨22, _⟩ => ⟨S96x1024, .bf16⟩
  | .local _ .vmem, ⟨23, _⟩ => ⟨S96x1024, .bf16⟩
  | .local _ .vmem, ⟨24, _⟩ => ⟨S64x2048, .bf16⟩
  | .local _ .vmem, ⟨25, _⟩ => ⟨S64x2048, .bf16⟩
  | .local _ .vmem, ⟨26, _⟩ => ⟨S1x1024x1024, .f32⟩
  | .local _ .vmem, ⟨27, _⟩ => ⟨S1x1024x1024, .f32⟩
  | .local _ .vmem, ⟨28, _⟩ => ⟨S4x128x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v16_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S96x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1536x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S64x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S96x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "gamma_0_256" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gamma_1_256" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gamma_2_256" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gamma_3_256" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none
-- ==== ReferenceIdeal.lean ====
abbrev S2x8192x1024 : Shape := ⟨3, ![2, 8192, 1024]⟩
abbrev S2x8192 : Shape := ⟨2, ![2, 8192]⟩
abbrev S1x1024 : Shape := ⟨2, ![1, 1024]⟩
abbrev S1x1024x4096 : Shape := ⟨3, ![1, 1024, 4096]⟩
abbrev S1x256 : Shape := ⟨2, ![1, 256]⟩
abbrev S1x1536x1024 : Shape := ⟨3, ![1, 1536, 1024]⟩
abbrev S2x2x512x256 : Shape := ⟨4, ![2, 2, 512, 256]⟩
abbrev S2x2x256x512 : Shape := ⟨4, ![2, 2, 256, 512]⟩
abbrev S2x128 : Shape := ⟨2, ![2, 128]⟩
abbrev S1x1024x3072 : Shape := ⟨3, ![1, 1024, 3072]⟩
abbrev S1024x2048 : Shape := ⟨2, ![1024, 2048]⟩
abbrev S4 : Shape := ⟨1, ![4]⟩
abbrev S1x2x512x256 : Shape := ⟨4, ![1, 2, 512, 256]⟩
abbrev S2x512x256 : Shape := ⟨3, ![2, 512, 256]⟩
abbrev S2x4x128x256 : Shape := ⟨4, ![2, 4, 128, 256]⟩
abbrev S2x4x256x128 : Shape := ⟨4, ![2, 4, 256, 128]⟩
abbrev S1x2x256x512 : Shape := ⟨4, ![1, 2, 256, 512]⟩
abbrev S2x256x512 : Shape := ⟨3, ![2, 256, 512]⟩
abbrev S2x256x4x128 : Shape := ⟨4, ![2, 256, 4, 128]⟩
abbrev S1024 : Shape := ⟨1, ![1024]⟩
abbrev S_ : Shape := ⟨0, ![]⟩
abbrev S2x8192x1 : Shape := ⟨3, ![2, 8192, 1]⟩
abbrev S1x1x1024 : Shape := ⟨3, ![1, 1, 1024]⟩
abbrev S1024x4096 : Shape := ⟨2, ![1024, 4096]⟩
abbrev S2x8192x4096 : Shape := ⟨3, ![2, 8192, 4096]⟩
abbrev S2x8192x512 : Shape := ⟨3, ![2, 8192, 512]⟩
abbrev S2x8192x4x128 : Shape := ⟨4, ![2, 8192, 4, 128]⟩
abbrev S2x4x8192x128 : Shape := ⟨4, ![2, 4, 8192, 128]⟩
abbrev S64 : Shape := ⟨1, ![64]⟩
abbrev S2x1x8192x1 : Shape := ⟨4, ![2, 1, 8192, 1]⟩
abbrev S1x1x1x64 : Shape := ⟨4, ![1, 1, 1, 64]⟩
abbrev S2x1x8192x64 : Shape := ⟨4, ![2, 1, 8192, 64]⟩
abbrev S2x4x8192x64 : Shape := ⟨4, ![2, 4, 8192, 64]⟩
abbrev S2x8192x4x256 : Shape := ⟨4, ![2, 8192, 4, 256]⟩
abbrev S2x4x8192x256 : Shape := ⟨4, ![2, 4, 8192, 256]⟩
abbrev S2x4x64x128x128 : Shape := ⟨5, ![2, 4, 64, 128, 128]⟩
abbrev S2x4x64x128x256 : Shape := ⟨5, ![2, 4, 64, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4x1x128x128 : Shape := ⟨5, ![1, 4, 1, 128, 128]⟩
abbrev S4x1 : Shape := ⟨2, ![4, 1]⟩
abbrev S4x128 : Shape := ⟨2, ![4, 128]⟩
abbrev S1x4x1x128x1 : Shape := ⟨5, ![1, 4, 1, 128, 1]⟩
abbrev S1x4x1x1 : Shape := ⟨4, ![1, 4, 1, 1]⟩
abbrev S64x2x4x128x256 : Shape := ⟨5, ![64, 2, 4, 128, 256]⟩
abbrev S1x2x4x128x256 : Shape := ⟨5, ![1, 2, 4, 128, 256]⟩
abbrev S256 : Shape := ⟨1, ![256]⟩
abbrev S2x4x8192 : Shape := ⟨3, ![2, 4, 8192]⟩
abbrev S2x4x8192x1 : Shape := ⟨4, ![2, 4, 8192, 1]⟩
abbrev S1x1x1x256 : Shape := ⟨4, ![1, 1, 1, 256]⟩
abbrev S1x1x1x128 : Shape := ⟨4, ![1, 1, 1, 128]⟩
abbrev S2x8192x1536 : Shape := ⟨3, ![2, 8192, 1536]⟩
abbrev S1536x1024 : Shape := ⟨2, ![1536, 1024]⟩
abbrev S1024x3072 : Shape := ⟨2, ![1024, 3072]⟩

abbrev nBuf : Space → Nat
  | .hbm => 309
  | .vmem => 0
  | .smem => 0
  | _ => 0

abbrev hbmTy0_0 (i : Nat) : BufTy := match i % 128 with
  | 0 => ⟨S2x8192x1024, .f32⟩
  | 1 => ⟨S2x8192, .i32⟩
  | 2 => ⟨S1x1024, .f32⟩
  | 3 => ⟨S1x1024x4096, .bf16⟩
  | 4 => ⟨S1x256, .f32⟩
  | 5 => ⟨S1x1536x1024, .bf16⟩
  | 6 => ⟨S2x2x512x256, .bf16⟩
  | 7 => ⟨S2x2x256x512, .bf16⟩
  | 8 => ⟨S2x128, .f32⟩
  | 9 => ⟨S1x1024x3072, .f32⟩
  | 10 => ⟨S1x1536x1024, .f32⟩
  | 11 => ⟨S1024x2048, .f32⟩
  | 12 => ⟨S4, .f32⟩
  | 13 => ⟨S1x2x512x256, .bf16⟩
  | 14 => ⟨S2x512x256, .bf16⟩
  | 15 => ⟨S2x512x256, .f32⟩
  | 16 => ⟨S2x4x128x256, .f32⟩
  | 17 => ⟨S2x4x256x128, .f32⟩
  | 18 => ⟨S1x2x256x512, .bf16⟩
  | 19 => ⟨S2x256x512, .bf16⟩
  | 20 => ⟨S2x256x512, .f32⟩
  | 21 => ⟨S2x256x4x128, .f32⟩
  | 22 => ⟨S2x4x256x128, .f32⟩
  | 23 => ⟨S1024, .f32⟩
  | 24 => ⟨S2x8192x1024, .f32⟩
  | 25 => ⟨S_, .f32⟩
  | 26 => ⟨S2x8192, .f32⟩
  | 27 => ⟨S2x8192x1, .f32⟩
  | 28 => ⟨S_, .f32⟩
  | 29 => ⟨S2x8192x1, .f32⟩
  | 30 => ⟨S2x8192x1, .f32⟩
  | 31 => ⟨S_, .f32⟩
  | 32 => ⟨S2x8192x1, .f32⟩
  | 33 => ⟨S2x8192x1, .f32⟩
  | 34 => ⟨S2x8192x1, .f32⟩
  | 35 => ⟨S2x8192x1024, .f32⟩
  | 36 => ⟨S2x8192x1024, .f32⟩
  | 37 => ⟨S1x1x1024, .f32⟩
  | 38 => ⟨S2x8192x1024, .f32⟩
  | 39 => ⟨S2x8192x1024, .f32⟩
  | 40 => ⟨S1024x4096, .bf16⟩
  | 41 => ⟨S1024x4096, .f32⟩
  | 42 => ⟨S2x8192x4096, .f32⟩
  | 43 => ⟨S2x8192x512, .f32⟩
  | 44 => ⟨S2x8192x4x128, .f32⟩
  | 45 => ⟨S2x4x8192x128, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S2x8192, .f32⟩
  | 58 => ⟨S2x1x8192x1, .f32⟩
  | 59 => ⟨S1x1x1x64, .f32⟩
  | 60 => ⟨S2x1x8192x64, .f32⟩
  | 61 => ⟨S2x1x8192x64, .f32⟩
  | 62 => ⟨S2x1x8192x64, .f32⟩
  | 63 => ⟨S2x1x8192x64, .f32⟩
  | 64 => ⟨S2x1x8192x64, .f32⟩
  | 65 => ⟨S2x4x8192x64, .f32⟩
  | 66 => ⟨S2x4x8192x64, .f32⟩
  | 67 => ⟨S2x4x8192x64, .f32⟩
  | 68 => ⟨S2x4x8192x64, .f32⟩
  | 69 => ⟨S2x4x8192x64, .f32⟩
  | 70 => ⟨S2x4x8192x64, .f32⟩
  | 71 => ⟨S2x4x8192x64, .f32⟩
  | 72 => ⟨S2x4x8192x64, .f32⟩
  | 73 => ⟨S2x4x8192x64, .f32⟩
  | 74 => ⟨S2x4x8192x64, .f32⟩
  | 75 => ⟨S2x4x8192x64, .f32⟩
  | 76 => ⟨S2x4x8192x64, .f32⟩
  | 77 => ⟨S2x4x8192x128, .f32⟩
  | 78 => ⟨S2x8192x512, .f32⟩
  | 79 => ⟨S2x8192x4x128, .f32⟩
  | 80 => ⟨S2x4x8192x128, .f32⟩
  | 81 => ⟨S64, .f32⟩
  | 82 => ⟨S64, .f32⟩
  | 83 => ⟨S_, .f32⟩
  | 84 => ⟨S64, .f32⟩
  | 85 => ⟨S64, .f32⟩
  | 86 => ⟨S_, .f32⟩
  | 87 => ⟨S64, .f32⟩
  | 88 => ⟨S64, .f32⟩
  | 89 => ⟨S_, .f32⟩
  | 90 => ⟨S64, .f32⟩
  | 91 => ⟨S64, .f32⟩
  | 92 => ⟨S2x8192, .f32⟩
  | 93 => ⟨S2x1x8192x1, .f32⟩
  | 94 => ⟨S1x1x1x64, .f32⟩
  | 95 => ⟨S2x1x8192x64, .f32⟩
  | 96 => ⟨S2x1x8192x64, .f32⟩
  | 97 => ⟨S2x1x8192x64, .f32⟩
  | 98 => ⟨S2x1x8192x64, .f32⟩
  | 99 => ⟨S2x1x8192x64, .f32⟩
  | 100 => ⟨S2x4x8192x64, .f32⟩
  | 101 => ⟨S2x4x8192x64, .f32⟩
  | 102 => ⟨S2x4x8192x64, .f32⟩
  | 103 => ⟨S2x4x8192x64, .f32⟩
  | 104 => ⟨S2x4x8192x64, .f32⟩
  | 105 => ⟨S2x4x8192x64, .f32⟩
  | 106 => ⟨S2x4x8192x64, .f32⟩
  | 107 => ⟨S2x4x8192x64, .f32⟩
  | 108 => ⟨S2x4x8192x64, .f32⟩
  | 109 => ⟨S2x4x8192x64, .f32⟩
  | 110 => ⟨S2x4x8192x64, .f32⟩
  | 111 => ⟨S2x4x8192x64, .f32⟩
  | 112 => ⟨S2x4x8192x128, .f32⟩
  | 113 => ⟨S2x8192x1024, .f32⟩
  | 114 => ⟨S2x8192x4x256, .f32⟩
  | 115 => ⟨S2x4x8192x256, .f32⟩
  | 116 => ⟨S4, .f32⟩
  | 117 => ⟨S_, .f32⟩
  | 118 => ⟨S2x4x8192x128, .f32⟩
  | 119 => ⟨S2x4x8192x128, .f32⟩
  | 120 => ⟨S2x4x64x128x128, .f32⟩
  | 121 => ⟨S2x4x64x128x128, .f32⟩
  | 122 => ⟨S2x4x64x128x256, .f32⟩
  | 123 => ⟨S128, .f32⟩
  | 124 => ⟨S128x1, .f32⟩
  | 125 => ⟨S1x128, .f32⟩
  | 126 => ⟨S128x128, .f32⟩
  | 127 => ⟨S128x128, .f32⟩
  | _ => ⟨S2x8192x1024, .f32⟩

abbrev hbmTy0_1 (i : Nat) : BufTy := match i % 128 with
  | 0 => ⟨S128x128, .f32⟩
  | 1 => ⟨S1x128x128, .f32⟩
  | 2 => ⟨S_, .f32⟩
  | 3 => ⟨S1x128x128, .f32⟩
  | 4 => ⟨S1x128x128, .i1⟩
  | 5 => ⟨S_, .f32⟩
  | 6 => ⟨S128x128, .f32⟩
  | 7 => ⟨S128x128, .f32⟩
  | 8 => ⟨S1x128x128, .f32⟩
  | 9 => ⟨S4x1x1, .f32⟩
  | 10 => ⟨S4x128x128, .f32⟩
  | 11 => ⟨S4x128x128, .f32⟩
  | 12 => ⟨S4x128x128, .f32⟩
  | 13 => ⟨S4x128x128, .f32⟩
  | 14 => ⟨S_, .f32⟩
  | 15 => ⟨S_, .f32⟩
  | 16 => ⟨S4x128x128, .i1⟩
  | 17 => ⟨S4x128x128, .f32⟩
  | 18 => ⟨S4x128x128, .f32⟩
  | 19 => ⟨S2x4x64x128x128, .f32⟩
  | 20 => ⟨S1x4x1x128x128, .f32⟩
  | 21 => ⟨S2x4x64x128x128, .f32⟩
  | 22 => ⟨S2x4x64x128x128, .f32⟩
  | 23 => ⟨S2x4x64x128x256, .f32⟩
  | 24 => ⟨S_, .f32⟩
  | 25 => ⟨S128, .f32⟩
  | 26 => ⟨S128, .f32⟩
  | 27 => ⟨S1x128, .f32⟩
  | 28 => ⟨S4x1, .f32⟩
  | 29 => ⟨S4x128, .f32⟩
  | 30 => ⟨S4x128, .f32⟩
  | 31 => ⟨S4x128, .f32⟩
  | 32 => ⟨S4x128, .f32⟩
  | 33 => ⟨S1x4x1x128x1, .f32⟩
  | 34 => ⟨S2x4x64x128x128, .f32⟩
  | 35 => ⟨S2x4x64x128x128, .f32⟩
  | 36 => ⟨S2x4x64x128x256, .f32⟩
  | 37 => ⟨S_, .f32⟩
  | 38 => ⟨S4, .f32⟩
  | 39 => ⟨S4, .f32⟩
  | 40 => ⟨S4, .f32⟩
  | 41 => ⟨S1x4x1x1, .f32⟩
  | 42 => ⟨S_, .f32⟩
  | 43 => ⟨S2x4x128x256, .f32⟩
  | 44 => ⟨S64x2x4x128x256, .f32⟩
  | 45 => ⟨S_, .f32⟩
  | 46 => ⟨S64x2x4x128x256, .f32⟩
  | 47 => ⟨S_, .i32⟩
  | 48 => ⟨S64x2x4x128x256, .f32⟩
  | 49 => ⟨S1x4x1x1, .f32⟩
  | 50 => ⟨S_, .i32⟩
  | 51 => ⟨S2x4x128x256, .f32⟩
  | 52 => ⟨S64x2x4x128x256, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S1x2x4x128x256, .f32⟩
  | 60 => ⟨S2x4x128x256, .f32⟩
  | 61 => ⟨S2x4x128x256, .f32⟩
  | 62 => ⟨S2x4x128x256, .f32⟩
  | 63 => ⟨S2x4x128x256, .f32⟩
  | 64 => ⟨S1x2x4x128x256, .f32⟩
  | 65 => ⟨S_, .i32⟩
  | 66 => ⟨S_, .i32⟩
  | 67 => ⟨S_, .i32⟩
  | 68 => ⟨S_, .i32⟩
  | 69 => ⟨S64x2x4x128x256, .f32⟩
  | 70 => ⟨S_, .i32⟩
  | 71 => ⟨S_, .i32⟩
  | 72 => ⟨S2x4x64x128x256, .f32⟩
  | 73 => ⟨S_, .f32⟩
  | 74 => ⟨S128, .f32⟩
  | 75 => ⟨S128, .f32⟩
  | 76 => ⟨S1x128, .f32⟩
  | 77 => ⟨S4x1, .f32⟩
  | 78 => ⟨S4x128, .f32⟩
  | 79 => ⟨S4x128, .f32⟩
  | 80 => ⟨S4x128, .f32⟩
  | 81 => ⟨S4x128, .f32⟩
  | 82 => ⟨S2x4x64x128x256, .f32⟩
  | 83 => ⟨S1x4x1x128x1, .f32⟩
  | 84 => ⟨S2x4x64x128x256, .f32⟩
  | 85 => ⟨S2x4x64x128x256, .f32⟩
  | 86 => ⟨S2x4x64x128x256, .f32⟩
  | 87 => ⟨S2x4x8192x256, .f32⟩
  | 88 => ⟨S256, .f32⟩
  | 89 => ⟨S2x4x8192x256, .f32⟩
  | 90 => ⟨S_, .f32⟩
  | 91 => ⟨S2x4x8192, .f32⟩
  | 92 => ⟨S2x4x8192x1, .f32⟩
  | 93 => ⟨S_, .f32⟩
  | 94 => ⟨S2x4x8192x1, .f32⟩
  | 95 => ⟨S2x4x8192x1, .f32⟩
  | 96 => ⟨S_, .f32⟩
  | 97 => ⟨S2x4x8192x1, .f32⟩
  | 98 => ⟨S2x4x8192x1, .f32⟩
  | 99 => ⟨S2x4x8192x1, .f32⟩
  | 100 => ⟨S2x4x8192x256, .f32⟩
  | 101 => ⟨S2x4x8192x256, .f32⟩
  | 102 => ⟨S1x1x1x256, .f32⟩
  | 103 => ⟨S2x4x8192x256, .f32⟩
  | 104 => ⟨S2x4x8192x256, .f32⟩
  | 105 => ⟨S2x8192x4x256, .f32⟩
  | 106 => ⟨S2x8192x1024, .f32⟩
  | 107 => ⟨S2x8192x1024, .f32⟩
  | 108 => ⟨S2x8192x1024, .f32⟩
  | 109 => ⟨S2x8192x1024, .f32⟩
  | 110 => ⟨S_, .f32⟩
  | 111 => ⟨S2x8192x1024, .f32⟩
  | 112 => ⟨S2x8192x1024, .f32⟩
  | 113 => ⟨S_, .f32⟩
  | 114 => ⟨S2x8192x1024, .f32⟩
  | 115 => ⟨S2x8192x1024, .f32⟩
  | 116 => ⟨S2x8192x1024, .f32⟩
  | 117 => ⟨S2x8192x1024, .f32⟩
  | 118 => ⟨S2x8192x512, .f32⟩
  | 119 => ⟨S1x128, .f32⟩
  | 120 => ⟨S128, .f32⟩
  | 121 => ⟨S2x8192x4x128, .f32⟩
  | 122 => ⟨S2x4x8192x128, .f32⟩
  | 123 => ⟨S2x4x8192x128, .f32⟩
  | 124 => ⟨S_, .f32⟩
  | 125 => ⟨S2x4x8192, .f32⟩
  | 126 => ⟨S2x4x8192x1, .f32⟩
  | 127 => ⟨S_, .f32⟩
  | _ => ⟨S2x8192x1024, .f32⟩

abbrev hbmTy0_2 (i : Nat) : BufTy := match i % 128 with
  | 0 => ⟨S2x4x8192x1, .f32⟩
  | 1 => ⟨S2x4x8192x1, .f32⟩
  | 2 => ⟨S_, .f32⟩
  | 3 => ⟨S2x4x8192x1, .f32⟩
  | 4 => ⟨S2x4x8192x1, .f32⟩
  | 5 => ⟨S2x4x8192x1, .f32⟩
  | 6 => ⟨S2x4x8192x128, .f32⟩
  | 7 => ⟨S2x4x8192x128, .f32⟩
  | 8 => ⟨S1x1x1x128, .f32⟩
  | 9 => ⟨S2x4x8192x128, .f32⟩
  | 10 => ⟨S2x4x8192x128, .f32⟩
  | 11 => ⟨S2x4x8192x256, .f32⟩
  | 12 => ⟨S_, .f32⟩
  | 13 => ⟨S2x4x8192x256, .f32⟩
  | 14 => ⟨S2x4x8192x256, .f32⟩
  | 15 => ⟨S_, .f32⟩
  | 16 => ⟨S2x4x8192, .f32⟩
  | 17 => ⟨S_, .f32⟩
  | 18 => ⟨S2x4x8192, .f32⟩
  | 19 => ⟨S2x4x8192, .f32⟩
  | 20 => ⟨S2x4x8192x1, .f32⟩
  | 21 => ⟨S2x4x8192x256, .f32⟩
  | 22 => ⟨S2x4x8192x256, .f32⟩
  | 23 => ⟨S2x4x8192x256, .f32⟩
  | 24 => ⟨S_, .f32⟩
  | 25 => ⟨S2x4x8192, .f32⟩
  | 26 => ⟨S2x4x8192x1, .f32⟩
  | 27 => ⟨S2x4x8192x256, .f32⟩
  | 28 => ⟨S2x4x8192x256, .f32⟩
  | 29 => ⟨S2x4x8192x128, .f32⟩
  | 30 => ⟨S2x8192x4x128, .f32⟩
  | 31 => ⟨S2x8192x512, .f32⟩
  | 32 => ⟨S2x8192x512, .f32⟩
  | 33 => ⟨S2x8192x512, .f32⟩
  | 34 => ⟨S2x8192x512, .f32⟩
  | 35 => ⟨S_, .f32⟩
  | 36 => ⟨S2x8192x512, .f32⟩
  | 37 => ⟨S2x8192x512, .f32⟩
  | 38 => ⟨S_, .f32⟩
  | 39 => ⟨S2x8192x512, .f32⟩
  | 40 => ⟨S2x8192x512, .f32⟩
  | 41 => ⟨S2x8192x512, .f32⟩
  | 42 => ⟨S2x8192x512, .f32⟩
  | 43 => ⟨S2x8192x1536, .f32⟩
  | 44 => ⟨S1536x1024, .bf16⟩
  | 45 => ⟨S1536x1024, .f32⟩
  | 46 => ⟨S2x8192x1024, .f32⟩
  | 47 => ⟨S2x8192x1024, .f32⟩
  | 48 => ⟨S1024x3072, .f32⟩
  | 49 => ⟨S1024x3072, .bf16⟩
  | 50 => ⟨S1536x1024, .f32⟩
  | 51 => ⟨S1536x1024, .bf16⟩
  | 52 => ⟨S1024x2048, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_6 : Ref sig .tc := ⟨.hbm, 83, rfl⟩
abbrev main_v64 : Ref sig .tc := ⟨.hbm, 84, rfl⟩
abbrev main_v65 : Ref sig .tc := ⟨.hbm, 85, rfl⟩
abbrev main_cst_7 : Ref sig .tc := ⟨.hbm, 86, rfl⟩
abbrev main_v66 : Ref sig .tc := ⟨.hbm, 87, rfl⟩
abbrev main_v67 : Ref sig .tc := ⟨.hbm, 88, rfl⟩
abbrev main_cst_8 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_9 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_10 : Ref sig .tc := ⟨.hbm, 130, rfl⟩
abbrev main_v107 : Ref sig .tc := ⟨.hbm, 131, rfl⟩
abbrev main_v108 : Ref sig .tc := ⟨.hbm, 132, rfl⟩
abbrev main_cst_11 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_12 : Ref sig .tc := ⟨.hbm, 142, rfl⟩
abbrev main_call0_v0 : Ref sig .tc := ⟨.hbm, 143, rfl⟩
abbrev main_call0_v1 : Ref sig .tc := ⟨.hbm, 144, rfl⟩
abbrev main_call0_v2 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_13 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_14 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_15 : Ref sig .tc := ⟨.hbm, 170, rfl⟩
abbrev main_v139 : Ref sig .tc := ⟨.hbm, 171, rfl⟩
abbrev main_v140 : Ref sig .tc := ⟨.hbm, 172, rfl⟩
abbrev main_cst_16 : Ref sig .tc := ⟨.hbm, 173, rfl⟩
abbrev main_v141 : Ref sig .tc := ⟨.hbm, 174, rfl⟩
abbrev main_c : Ref sig .tc := ⟨.hbm, 175, rfl⟩
abbrev main_v142_0 : Ref sig .tc := ⟨.hbm, 176, rfl⟩
abbrev main_v142_1 : Ref sig .tc := ⟨.hbm, 177, rfl⟩
abbrev main_v142_2 : Ref sig .tc := ⟨.hbm, 178, rfl⟩
abbrev main_v142_3 : Ref sig .tc := ⟨.hbm, 179, rfl⟩
abbrev main_v142_4 : Ref sig .tc := ⟨.hbm, 180, rfl⟩
abbrev main_while0c_c_32 : Ref sig .tc := ⟨.hbm, 181, rfl⟩
abbrev main_while0c_v225 : Ref sig .tc := ⟨.hbm, 182, rfl⟩
abbrev main_while0b_call1_c : Ref sig .tc := ⟨.hbm, 183, rfl⟩
abbrev main_while0b_call1_c_0 : Ref sig .tc := ⟨.hbm, 184, rfl⟩
abbrev main_while0b_call1_c_1 : Ref sig .tc := ⟨.hbm, 185, rfl⟩
abbrev main_while0b_call1_c_2 : Ref sig .tc := ⟨.hbm, 186, rfl⟩
abbrev main_while0b_call1_v0 : Ref sig .tc := ⟨.hbm, 187, rfl⟩
abbrev main_while0b_v225 : Ref sig .tc := ⟨.hbm, 188, rfl⟩
abbrev main_while0b_v226 : Ref sig .tc := ⟨.hbm, 189, rfl⟩
abbrev main_while0b_v227 : Ref sig .tc := ⟨.hbm, 190, rfl⟩
abbrev main_while0b_v228 : Ref sig .tc := ⟨.hbm, 191, rfl⟩
abbrev main_while0b_call2_v0 : Ref sig .tc := ⟨.hbm, 192, rfl⟩
abbrev main_while0b_call2_c : Ref sig .tc := ⟨.hbm, 193, rfl⟩
abbrev main_while0b_call2_c_0 : Ref sig .tc := ⟨.hbm, 194, rfl⟩
abbrev main_while0b_call2_c_1 : Ref sig .tc := ⟨.hbm, 195, rfl⟩
abbrev main_while0b_call2_c_2 : Ref sig .tc := ⟨.hbm, 196, rfl⟩
abbrev main_while0b_v229 : Ref sig .tc := ⟨.hbm, 197, rfl⟩
abbrev main_while0b_c_32 : Ref sig .tc := ⟨.hbm, 198, rfl⟩
abbrev main_while0b_v230 : Ref sig .tc := ⟨.hbm, 199, rfl⟩
abbrev main_v143 : Ref sig .tc := ⟨.hbm, 200, rfl⟩
abbrev main_cst_17 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_cst_18 : Ref sig .tc := ⟨.hbm, 218, rfl⟩
abbrev main_v160 : Ref sig .tc := ⟨.hbm, 219, rfl⟩
abbrev main_v161 : Ref sig .tc := ⟨.hbm, 220, rfl⟩
abbrev main_cst_19 : Ref sig .tc := ⟨.hbm, 221, rfl⟩
abbrev main_v162 : Ref sig .tc := ⟨.hbm, 222, rfl⟩
abbrev main_v163 : Ref sig .tc := ⟨.hbm, 223, rfl⟩
abbrev main_cst_20 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_call3_v0 : Ref sig .tc := ⟨.hbm, 236, rfl⟩
abbrev main_call3_v1 : Ref sig .tc := ⟨.hbm, 237, rfl⟩
abbrev main_call3_cst : Ref sig .tc := ⟨.hbm, 238, rfl⟩
abbrev main_call3_v2 : Ref sig .tc := ⟨.hbm, 239, rfl⟩
abbrev main_call3_v3 : Ref sig .tc := ⟨.hbm, 240, rfl⟩
abbrev main_call3_cst_0 : Ref sig .tc := ⟨.hbm, 241, rfl⟩
abbrev main_call3_v4 : Ref sig .tc := ⟨.hbm, 242, rfl⟩
abbrev main_call3_v5 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_cst_21 : Ref sig .tc := ⟨.hbm, 252, rfl⟩
abbrev main_v183 : Ref sig .tc := ⟨.hbm, 253, rfl⟩
abbrev main_v184 : Ref sig .tc := ⟨.hbm, 254, rfl⟩
abbrev main_cst_22 : Ref sig .tc := ⟨.hbm, 255, rfl⟩
abbrev main_v185 : Ref sig .tc := ⟨.hbm, 256, rfl⟩
abbrev main_v186 : Ref sig .tc := ⟨.hbm, 257, rfl⟩
abbrev main_cst_23 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_cst_24 : Ref sig .tc := ⟨.hbm, 268, rfl⟩
abbrev main_v196 : Ref sig .tc := ⟨.hbm, 269, rfl⟩
abbrev main_v197 : Ref sig .tc := ⟨.hbm, 270, rfl⟩
abbrev main_cst_25 : Ref sig .tc := ⟨.hbm, 271, rfl⟩
abbrev main_v198 : Ref sig .tc := ⟨.hbm, 272, rfl⟩
abbrev main_cst_26 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_cst_27 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_call4_v0 : Ref sig .tc := ⟨.hbm, 289, rfl⟩
abbrev main_call4_v1 : Ref sig .tc := ⟨.hbm, 290, rfl⟩
abbrev main_call4_cst : Ref sig .tc := ⟨.hbm, 291, rfl⟩
abbrev main_call4_v2 : Ref sig .tc := ⟨.hbm, 292, rfl⟩
abbrev main_call4_v3 : Ref sig .tc := ⟨.hbm, 293, rfl⟩
abbrev main_call4_cst_0 : Ref sig .tc := ⟨.hbm, 294, rfl⟩
abbrev main_call4_v4 : Ref sig .tc := ⟨.hbm, 295, rfl⟩
abbrev main_call4_v5 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x8192x1024 : Shape := ⟨3, ![2, 8192, 1024]⟩
abbrev S1024 : Shape := ⟨1, ![1024]⟩
abbrev S1x1024 : Shape := ⟨2, ![1, 1024]⟩
abbrev S1024x2048 : Shape := ⟨2, ![1024, 2048]⟩
abbrev S1x1024x3072 : Shape := ⟨3, ![1, 1024, 3072]⟩
abbrev S2x2x512x256 : Shape := ⟨4, ![2, 2, 512, 256]⟩
abbrev S2x2x256x512 : Shape := ⟨4, ![2, 2, 256, 512]⟩
abbrev S2x128 : Shape := ⟨2, ![2, 128]⟩
abbrev S1x1x1024 : Shape := ⟨3, ![1, 1, 1024]⟩
abbrev S2x1x128 : Shape := ⟨3, ![2, 1, 128]⟩
abbrev S2x8192x512 : Shape := ⟨3, ![2, 8192, 512]⟩
abbrev S1x1024x1024 : Shape := ⟨3, ![1, 1024, 1024]⟩
abbrev S1x1x512x256 : Shape := ⟨4, ![1, 1, 512, 256]⟩
abbrev S1x1x256x512 : Shape := ⟨4, ![1, 1, 256, 512]⟩
abbrev S1x1x128 : Shape := ⟨3, ![1, 1, 128]⟩
abbrev S1x1024x512 : Shape := ⟨3, ![1, 1024, 512]⟩
abbrev S1024x1024 : Shape := ⟨2, ![1024, 1024]⟩
abbrev S1024x1 : Shape := ⟨2, ![1024, 1]⟩
abbrev S1024x512 : Shape := ⟨2, ![1024, 512]⟩
abbrev S1024x128 : Shape := ⟨2, ![1024, 128]⟩
abbrev S1x128 : Shape := ⟨2, ![1, 128]⟩
abbrev S1x1x128x256 : Shape := ⟨4, ![1, 1, 128, 256]⟩
abbrev S128x256 : Shape := ⟨2, ![128, 256]⟩
abbrev S1024x256 : Shape := ⟨2, ![1024, 256]⟩
abbrev S1x1x256x128 : Shape := ⟨4, ![1, 1, 256, 128]⟩
abbrev S256x128 : Shape := ⟨2, ![256, 128]⟩

abbrev nBuf : Space → Nat
  | .hbm => 16
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1x1024, .f32⟩
  | .hbm, ⟨3, _⟩ => ⟨S1024x2048, .bf16⟩
  | .hbm, ⟨4, _⟩ => ⟨S1x1024x3072, .bf16⟩
  | .hbm, ⟨5, _⟩ => ⟨S2x2x512x256, .bf16⟩
  | .hbm, ⟨6, _⟩ => ⟨S2x2x256x512, .bf16⟩
  | .hbm, ⟨7, _⟩ => ⟨S2x128, .f32⟩
  | .hbm, ⟨8, _⟩ => ⟨S1x1024, .f32⟩
  | .hbm, ⟨9, _⟩ => ⟨S1x1x1024, .f32⟩
  | .hbm, ⟨10, _⟩ => ⟨S2x1x128, .f32⟩
  | .hbm, ⟨11, _⟩ => ⟨S2x8192x1024, .bf16⟩
  | .hbm, ⟨12, _⟩ => ⟨S2x8192x1024, .bf16⟩
  | .hbm, ⟨13, _⟩ => ⟨S2x8192x1024, .bf16⟩
  | .hbm, ⟨14, _⟩ => ⟨S2x8192x1024, .bf16⟩
  | .hbm, ⟨15, _⟩ => ⟨S2x8192x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1024x2048, .bf16⟩
  | .local _ .vmem, ⟨5, _⟩ => ⟨S1x1024x3072, .bf16⟩
  | .local _ .vmem, ⟨6, _⟩ => ⟨S1x1x512x256, .bf16⟩
  | .local _ .vmem, ⟨7, _⟩ => ⟨S1x1x512x256, .bf16⟩
  | .local _ .vmem, ⟨8, _⟩ => ⟨S1x1x256x512, .bf16⟩
  | .local _ .vmem, ⟨9, _⟩ => ⟨S1x1x256x512, .bf16⟩
  | .local _ .vmem, ⟨10, _⟩ => ⟨S1x1x128, .f32⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x512, .bf16⟩
  | .local _ .vmem, ⟨20, _⟩ => ⟨S1x1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S2x8192x1024 : Shape := ⟨3, ![2, 8192, 1024]⟩
abbrev S1024 : Shape := ⟨1, ![1024]⟩
abbrev S1x1024 : Shape := ⟨2, ![1, 1024]⟩
abbrev S1024x2048 : Shape := ⟨2, ![1024, 2048]⟩
abbrev S1x1024x3072 : Shape := ⟨3, ![1, 1024, 3072]⟩
abbrev S2x2x512x256 : Shape := ⟨4, ![2, 2, 512, 256]⟩
abbrev S2x2x256x512 : Shape := ⟨4, ![2, 2, 256, 512]⟩
abbrev S2x128 : Shape := ⟨2, ![2, 128]⟩
abbrev S1x2x512x256 : Shape := ⟨4, ![1, 2, 512, 256]⟩
abbrev S2x512x256 : Shape := ⟨3, ![2, 512, 256]⟩
abbrev S2x4x128x256 : Shape := ⟨4, ![2, 4, 128, 256]⟩
abbrev S2x4x256x128 : Shape := ⟨4, ![2, 4, 256, 128]⟩
abbrev S1x2x256x512 : Shape := ⟨4, ![1, 2, 256, 512]⟩
abbrev S2x256x512 : Shape := ⟨3, ![2, 256, 512]⟩
abbrev S2x256x4x128 : Shape := ⟨4, ![2, 256, 4, 128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S1024x3072 : Shape := ⟨2, ![1024, 3072]⟩
abbrev S2x8192x3072 : Shape := ⟨3, ![2, 8192, 3072]⟩
abbrev S2x8192x512 : Shape := ⟨3, ![2, 8192, 512]⟩
abbrev S1x128 : Shape := ⟨2, ![1, 128]⟩
abbrev S128 : Shape := ⟨1, ![128]⟩
abbrev S2x8192x4x128 : Shape := ⟨4, ![2, 8192, 4, 128]⟩
abbrev S2x4x8192x128 : Shape := ⟨4, ![2, 4, 8192, 128]⟩
abbrev S2x4x8192 : Shape := ⟨3, ![2, 4, 8192]⟩
abbrev S2x4x8192x1 : Shape := ⟨4, ![2, 4, 8192, 1]⟩
abbrev S1x1x1x128 : Shape := ⟨4, ![1, 1, 1, 128]⟩
abbrev S2x4x8192x256 : Shape := ⟨4, ![2, 4, 8192, 256]⟩

abbrev nBuf : Space → Nat
  | .hbm => 130
  | .vmem => 0
  | .smem => 0
  | _ => 0

abbrev hbmTy0_0 (i : Nat) : BufTy := match i % 128 with
  | 0 => ⟨S2x8192x1024, .f32⟩
  | 1 => ⟨S1024, .f32⟩
  | 2 => ⟨S1x1024, .f32⟩
  | 3 => ⟨S1024x2048, .bf16⟩
  | 4 => ⟨S1x1024x3072, .bf16⟩
  | 5 => ⟨S2x2x512x256, .bf16⟩
  | 6 => ⟨S2x2x256x512, .bf16⟩
  | 7 => ⟨S2x128, .f32⟩
  | 8 => ⟨S1x2x512x256, .bf16⟩
  | 9 => ⟨S2x512x256, .bf16⟩
  | 10 => ⟨S2x512x256, .f32⟩
  | 11 => ⟨S2x4x128x256, .f32⟩
  | 12 => ⟨S2x4x256x128, .f32⟩
  | 13 => ⟨S1x2x256x512, .bf16⟩
  | 14 => ⟨S2x256x512, .bf16⟩
  | 15 => ⟨S2x256x512, .f32⟩
  | 16 => ⟨S2x256x4x128, .f32⟩
  | 17 => ⟨S2x4x256x128, .f32⟩
  | 18 => ⟨S2x8192x1024, .f32⟩
  | 19 => ⟨S_, .f32⟩
  | 20 => ⟨S2x8192, .f32⟩
  | 21 => ⟨S2x8192x1, .f32⟩
  | 22 => ⟨S_, .f32⟩
  | 23 => ⟨S2x8192x1, .f32⟩
  | 24 => ⟨S2x8192x1, .f32⟩
  | 25 => ⟨S_, .f32⟩
  | 26 => ⟨S2x8192x1, .f32⟩
  | 27 => ⟨S2x8192x1, .f32⟩
  | 28 => ⟨S2x8192x1, .f32⟩
  | 29 => ⟨S2x8192x1024, .f32⟩
  | 30 => ⟨S2x8192x1024, .f32⟩
  | 31 => ⟨S1x1x1024, .f32⟩
  | 32 => ⟨S2x8192x1024, .f32⟩
  | 33 => ⟨S2x8192x1024, .f32⟩
  | 34 => ⟨S1024x2048, .f32⟩
  | 35 => ⟨S2x8192x2048, .f32⟩
  | 36 => ⟨S1024, .f32⟩
  | 37 => ⟨S2x8192x1024, .f32⟩
  | 38 => ⟨S_, .f32⟩
  | 39 => ⟨S2x8192, .f32⟩
  | 40 => ⟨S2x8192x1, .f32⟩
  | 41 => ⟨S_, .f32⟩
  | 42 => ⟨S2x8192x1, .f32⟩
  | 43 => ⟨S2x8192x1, .f32⟩
  | 44 => ⟨S_, .f32⟩
  | 45 => ⟨S2x8192x1, .f32⟩
  | 46 => ⟨S2x8192x1, .f32⟩
  | 47 => ⟨S2x8192x1, .f32⟩
  | 48 => ⟨S2x8192x1024, .f32⟩
  | 49 => ⟨S2x8192x1024, .f32⟩
  | 50 => ⟨S1x1x1024, .f32⟩
  | 51 => ⟨S2x8192x1024, .f32⟩
  | 52 => ⟨S2x8192x1024, .f32⟩
  | 53 => ⟨S1024x3072, .bf16⟩
  | 54 => ⟨S1024x3072, .f32⟩
  | 55 => ⟨S2x8192x3072, .f32⟩
  | 56 => ⟨S2x8192x1024, .f32⟩
  | 57 => ⟨S_, .f32⟩
  | 58 => ⟨S2x8192x1024, .f32⟩
  | 59 => ⟨S2x8192x1024, .f32⟩
  | 60 => ⟨S2x8192x1024, .f32⟩
  | 61 => ⟨S2x8192x1024, .f32⟩
  | 62 => ⟨S2x8192x1024, .f32⟩
  | 63 => ⟨S_, .f32⟩
  | 64 => ⟨S2x8192x1024, .f32⟩
  | 65 => ⟨S2x8192x1024, .f32⟩
  | 66 => ⟨S_, .f32⟩
  | 67 => ⟨S2x8192x1024, .f32⟩
  | 68 => ⟨S2x8192x1024, .f32⟩
  | 69 => ⟨S2x8192x1024, .f32⟩
  | 70 => ⟨S2x8192x512, .f32⟩
  | 71 => ⟨S1x128, .f32⟩
  | 72 => ⟨S128, .f32⟩
  | 73 => ⟨S2x8192x4x128, .f32⟩
  | 74 => ⟨S2x4x8192x128, .f32⟩
  | 75 => ⟨S2x4x8192x128, .f32⟩
  | 76 => ⟨S_, .f32⟩
  | 77 => ⟨S2x4x8192, .f32⟩
  | 78 => ⟨S2x4x8192x1, .f32⟩
  | 79 => ⟨S_, .f32⟩
  | 80 => ⟨S2x4x8192x1, .f32⟩
  | 81 => ⟨S2x4x8192x1, .f32⟩
  | 82 => ⟨S_, .f32⟩
  | 83 => ⟨S2x4x8192x1, .f32⟩
  | 84 => ⟨S2x4x8192x1, .f32⟩
  | 85 => ⟨S2x4x8192x1, .f32⟩
  | 86 => ⟨S2x4x8192x128, .f32⟩
  | 87 => ⟨S2x4x8192x128, .f32⟩
  | 88 => ⟨S1x1x1x128, .f32⟩
  | 89 => ⟨S2x4x8192x128, .f32⟩
  | 90 => ⟨S2x4x8192x128, .f32⟩
  | 91 => ⟨S2x4x8192x256, .f32⟩
  | 92 => ⟨S_, .f32⟩
  | 93 => ⟨S2x4x8192x256, .f32⟩
  | 94 => ⟨S2x4x8192x256, .f32⟩
  | 95 => ⟨S_, .f32⟩
  | 96 => ⟨S2x4x8192, .f32⟩
  | 97 => ⟨S_, .f32⟩
  | 98 => ⟨S2x4x8192, .f32⟩
  | 99 => ⟨S2x4x8192, .f32⟩
  | 100 => ⟨S2x4x8192x1, .f32⟩
  | 101 => ⟨S2x4x8192x256, .f32⟩
  | 102 => ⟨S2x4x8192x256, .f32⟩
  | 103 => ⟨S2x4x8192x256, .f32⟩
  | 104 => ⟨S_, .f32⟩
  | 105 => ⟨S2x4x8192, .f32⟩
  | 106 => ⟨S2x4x8192x1, .f32⟩
  | 107 => ⟨S2x4x8192x256, .f32⟩
  | 108 => ⟨S2x4x8192x256, .f32⟩
  | 109 => ⟨S2x4x8192x128, .f32⟩
  | 110 => ⟨S2x8192x4x128, .f32⟩
  | 111 => ⟨S2x8192x512, .f32⟩
  | 112 => ⟨S2x8192x512, .f32⟩
  | 113 => ⟨S2x8192x512, .f32⟩
  | 114 => ⟨S2x8192x512, .f32⟩
  | 115 => ⟨S_, .f32⟩
  | 116 => ⟨S2x8192x512, .f32⟩
  | 117 => ⟨S2x8192x512, .f32⟩
  | 118 => ⟨S_, .f32⟩
  | 119 => ⟨S2x8192x512, .f32⟩
  | 120 => ⟨S2x8192x512, .f32⟩
  | 121 => ⟨S2x8192x512, .f32⟩
  | 122 => ⟨S2x8192x512, .f32⟩
  | 123 => ⟨S2x8192x1024, .f32⟩
  | 124 => ⟨S2x8192x1024, .f32⟩
  | 125 => ⟨S2x8192x1024, .bf16⟩
  | 126 => ⟨S2x8192x1024, .bf16⟩
  | 127 => ⟨S2x8192x1024, .bf16⟩
  | _ => ⟨S2x8192x1024, .f32⟩

abbrev hbmTy0_1 (i : Nat) : BufTy := match i % 128 with
  | 0 => ⟨S2x8192x1024, .bf16⟩
  | 1 => ⟨S2x8192x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_6 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_v67 : Ref sig .tc := ⟨.hbm, 94, rfl⟩
abbrev main_cst_10 : Ref sig .tc := ⟨.hbm, 95, rfl⟩
abbrev main_v68 : Ref sig .tc := ⟨.hbm, 96, rfl⟩
abbrev main_cst_11 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩

abbrev nD : Nat := 1
abbrev τ : Topo := Topo.v7x

variable {F : FTy → Type} [FloatOps F]
-- ==== Proof.Model.lean ====
module

public import proofs.«01_k».proof.Proof.Gen.KernelIdeal.Frame

@[expose] public section

/-!
# The kernel's body, chunk by chunk

One grid point works on 1024 rows, as four chunks of 256. Here are the body's values as functions of the chunk and the
head, over the blocks the point reads: `piece` is a slab of the in-projection, `qHead`, `kHead`, `vHead` a head's
rows, `carried` a head's retention state before a chunk, `outPiece` a slab of the output.
-/

open Idealize.ShloMosaic Idealize.ShloMosaic.TcCoe
open Cert.KernelIdeal Cert.KernelIdeal.Gen

set_option maxRecDepth 16384

noncomputable section

namespace Cert.Layer.Body

variable {F : FTy → Type} [FloatOps F] [Named F]

/-- The blocks a grid point reads, and the retention states its first chunk starts from. -/
structure Blocks (F : FTy → Type) where
  x : Vec F S1x1024x1024 .f32
  pos : Vec F S1x1x1024 .f32
  invf : Vec F S64x1 .f32
  gn : Vec F S1x1x1024 .f32
  win : Vec F S1x1024x4096 .bf16
  gret : Vec F S1x1x256 .f32
  wout : Vec F S1x1536x1024 .bf16
  kt : Vec F S1x1x512x256 .bf16
  mv : Vec F S1x1x256x512 .bf16
  gq : Vec F S1x1x128 .f32
  s0 : Fin 4 → FVec F S128x256 .f32

/-- Lanes `128 h …` of a slab of 512. -/
def lanes128 (u : FVec F S256x512 .f32) (h : Fin 4) : FVec F S256x128 .f32 :=
  extractStridedSlice S256x128 ![0, 128 * h.val] u (by revert h; decide)

/-- Lanes `256 h …` of a slab of 512. -/
def lanes256 (u : FVec F S256x512 .f32) (h : Fin 2) : FVec F S256x256 .f32 :=
  extractStridedSlice S256x256 ![0, 256 * h.val] u (by revert h; decide)

/-- Rows `256 c …` of a table of 1024. -/
def rows (T : FVec F S1024x128 .f32) (c : Fin 4) : FVec F S256x128 .f32 :=
  extractStridedSlice S256x128 ![256 * c.val, 0] T (by revert c; decide)

/-- The rotary embedding of a head's rows, `t cos + roll(t) sin` with the sign in the sine table. -/
def rotary (t cs sn : FVec F S256x128 .f32) : FVec F S256x128 .f32 :=
  addf (mulf t cs) (mulf (dynamicRotate 1 64#32 none t rotates_S256x128_d1) sn)

/-- The logarithm of a head's decay. -/
def logGamma (h : Fin 4) : F .f32 :=
  match h with
  | 0 => Named.named κ "log_gamma_0" 0xBD020AEC#32
  | 1 => Named.named κ "log_gamma_1" 0xBC8102B3#32
  | 2 => Named.named κ "log_gamma_2" 0xBC0080AC#32
  | 3 => Named.named κ "log_gamma_3" 0xBB80402B#32

/-- A head's decay over a whole chunk. -/
def gammaChunk (h : Fin 4) : F .f32 :=
  match h with
  | 0 => Named.named κ "gamma_0_256" 0x399ACCA1#32
  | 1 => Named.named κ "gamma_1_256" 0x3C9160A5#32
  | 2 => Named.named κ "gamma_2_256" 0x3E097FCE#32
  | 3 => Named.named κ "gamma_3_256" 0x3EBBFC5D#32

/-- Row number less column number, as floats. -/
def rel : FVec F S256x256 .f32 :=
  sitofp .f32 (subi (iota .tc S256x256 32 [0] iota_S256x256_d0_w32) (iota .tc S256x256 32 [1] iota_S256x256_d1_w32))

/-- A head's decays within a chunk: `γ^(r - r')` for `r' ≤ r`, else zero. -/
def decay (h : Fin 4) : FVec F S256x256 .f32 :=
  select (cmpf .oge (rel (F := F)) (broadcast S256x256 (Scalar.ofBits .f32 0x00000000#32)))
    (exp (mulf (maximumf rel (broadcast S256x256 (Scalar.ofBits .f32 0x00000000#32))) (broadcast S256x256 (logGamma h))))
    (broadcast S256x256 (Scalar.ofBits .f32 0x00000000#32))

/-- The row number, as a float. -/
def rowNo : FVec F S256x1 .f32 := sitofp .f32 (iota .tc S256x1 32 [0] iota_S256x1_d0_w32)

/-- A head's decays of the state before the chunk: `γ^(r + 1)`. -/
def xi (h : Fin 4) : FVec F S256x1 .f32 :=
  exp (mulf (addf rowNo (broadcast S256x1 (Scalar.ofBits .f32 0x3F800000#32))) (broadcast S256x1 (logGamma h)))

/-- A head's decays of the rows to the chunk's end: `γ^(255 - r)`. -/
def zeta (h : Fin 4) : FVec F S256x1 .f32 :=
  exp (mulf (subf (broadcast S256x1 (Scalar.ofBits .f32 0x437F0000#32)) rowNo) (broadcast S256x1 (logGamma h)))

/-- A head's scores, queries against keys. -/
def scoresOf (q k : FVec F S256x128 .bf16) : FVec F S256x256 .f32 :=
  matmul dot_S256x128_S256x128_S256x256_1_1_0_0_n_n none q k (constant S256x256 .f32 0x00000000#32)

/-- A head's retention over a chunk, from the state before it. -/
def retOf (h : Fin 4) (q : FVec F S256x128 .bf16) (k : FVec F S256x128 .f32) (v : FVec F S256x256 .bf16)
    (S : FVec F S128x256 .f32) : FVec F S256x256 .f32 :=
  addf
    (matmul dot_S256x256_S256x256_S256x256_1_0_0_1_n_n none
      (truncf .bf16 (mulf (scoresOf q (truncf .bf16 k bitsLt_bf16_f32)) (decay h)) bitsLt_bf16_f32) v
      (constant S256x256 .f32 0x00000000#32))
    (mulf (matmul dot_S256x128_S128x256_S256x256_1_0_0_1_n_n none q (truncf .bf16 S bitsLt_bf16_f32)
      (constant S256x256 .f32 0x00000000#32)) (broadcastTo S256x256 (xi h) broadcasts_S256x1_S256x256))

/-- A head's state after a chunk, from the state before it. -/
def stateOf (h : Fin 4) (k : FVec F S256x128 .f32) (v : FVec F S256x256 .bf16) (S : FVec F S128x256 .f32) :
    FVec F S128x256 .f32 :=
  addf (mulf (broadcast S128x256 (gammaChunk h)) S)
    (matmul dot_S128x256_S256x256_S128x256_1_0_0_1_n_n none
      (truncf .bf16 (transpose S128x256 [1, 0] (mulf k (broadcastTo S256x128 (zeta h) broadcasts_S256x1_S256x128))
        transposes_S256x128_p1_0_S128x256) bitsLt_bf16_f32) v (constant S128x256 .f32 0x00000000#32))

/-- The gate, on 256 lanes. -/
def silu256 (y : FVec F S256x256 .f32) : FVec F S256x256 .f32 :=
  mulf y (divf (broadcast S256x256 (Scalar.ofBits .f32 0x3F800000#32))
    (addf (broadcast S256x256 (Scalar.ofBits .f32 0x3F800000#32))
      (exp (subf (broadcast S256x256 (Scalar.ofBits .f32 0x00000000#32)) y))))

/-- The gate, on 128 lanes. -/
def silu128 (y : FVec F S256x128 .f32) : FVec F S256x128 .f32 :=
  mulf y (divf (broadcast S256x128 (Scalar.ofBits .f32 0x3F800000#32))
    (addf (broadcast S256x128 (Scalar.ofBits .f32 0x3F800000#32))
      (exp (subf (broadcast S256x128 (Scalar.ofBits .f32 0x00000000#32)) y))))

/-- A head's normalised retention, gated. -/
def retGatedOf (r gate : FVec F S256x256 .f32) (g : Vec F S1x1x256 .f32) : FVec F S256x256 .bf16 :=
  truncf .bf16 (mulf
    (mulf (mulf r (broadcastTo S256x256
      (rsqrt (addf (divf (shapeCast S256x1 (multiReduction .add [1] S256 (mulf r r) 0x00000000#32 reduces_S256x256_S256
        (.inl rfl) rfl) shapeCasts_S256_S256x1) (broadcast S256x1 (Scalar.ofBits .f32 0x43800000#32)))
        (broadcast S256x1 (Scalar.ofBits .f32 0x358637BD#32)))) broadcasts_S256x1_S256x256))
      (broadcastTo S256x256 (shapeCast S1x256 g shapeCasts_S1x1x256_S1x256) broadcasts_S1x256_S256x256))
    (silu256 gate)) bitsLt_bf16_f32

/-- A memory head's logits. -/
def logitsOf (f : FVec F S256x128 .f32) (g : Vec F S1x1x128 .f32) (k : Vec F S1x1x128x256 .bf16) : FVec F S256x256 .f32 :=
  mulf (matmul dot_S256x128_S128x256_S256x256_1_0_0_1_n_n none
    (truncf .bf16 (mulf (mulf f (broadcastTo S256x128
      (rsqrt (addf (divf (shapeCast S256x1 (multiReduction .add [1] S256 (mulf f f) 0x00000000#32 reduces_S256x128_S256
        (.inl rfl) rfl) shapeCasts_S256_S256x1) (broadcast S256x1 (Scalar.ofBits .f32 0x43000000#32)))
        (broadcast S256x1 (Scalar.ofBits .f32 0x358637BD#32)))) broadcasts_S256x1_S256x128))
      (broadcastTo S256x128 (shapeCast S1x128 g shapeCasts_S1x1x128_S1x128) broadcasts_S1x128_S256x128)) bitsLt_bf16_f32)
    (shapeCast S128x256 k shapeCasts_S1x1x128x256_S128x256) (constant S256x256 .f32 0x00000000#32))
    (broadcast S256x256 (Scalar.ofBits .f32 0x3DB504F3#32))

/-- The exponentials of a memory head's logits less each row's maximum. -/
def expsOf (l : FVec F S256x256 .f32) : FVec F S256x256 .f32 :=
  exp (subf l (broadcastTo S256x256 (shapeCast S256x1 (multiReduction .maximumf [1] S256 l 0xFF800000#32
    reduces_S256x256_S256 (.inl rfl) rfl) shapeCasts_S256_S256x1) broadcasts_S256x1_S256x256))

/-- A memory head's values, divided by the sum of the exponentials and gated. -/
def memGatedOf (l : FVec F S256x256 .f32) (v : Vec F S1x1x256x128 .bf16) (gate : FVec F S256x128 .f32) :
    FVec F S256x128 .bf16 :=
  truncf .bf16 (mulf (divf
    (matmul dot_S256x256_S256x128_S256x128_1_0_0_1_n_n none (truncf .bf16 (expsOf l) bitsLt_bf16_f32)
      (shapeCast S256x128 v shapeCasts_S1x1x256x128_S256x128) (constant S256x128 .f32 0x00000000#32))
    (broadcastTo S256x128 (shapeCast S256x1 (multiReduction .add [1] S256 (expsOf l) 0x00000000#32 reduces_S256x256_S256
      (.inl rfl) rfl) shapeCasts_S256_S256x1) broadcasts_S256x1_S256x128))
    (silu128 gate)) bitsLt_bf16_f32

namespace Blocks

variable (B : Blocks F)

/-- Chunk `c`'s rows of the input. -/
def chunkX (c : Fin 4) : FVec F S256x1024 .f32 :=
  shapeCast S256x1024 (View.ld B.x (Rect.unit ![0, 256 * c.val, 0] S1x256x1024.size (by revert c; decide)))
    shapeCasts_S1x256x1024_S256x1024

/-- Slab `p` of chunk `c`'s in-projection: 512 columns. -/
def piece (c : Fin 4) (p : Fin 8) : FVec F S256x512 .f32 :=
  matmul dot_S256x1024_S1024x512_S256x512_1_0_0_1_n_n none
    (k0_pay11 (B.chunkX c) (View.ld B.gn (Rect.unit ![0, 0, 0] S1x1x1024.size (by decide))))
    (shapeCast S1024x512 (View.ld B.win (Rect.unit ![0, 0, 512 * p.val] S1x1024x512.size (by revert p; decide)))
      shapeCasts_S1x1024x512_S1024x512)
    (constant S256x512 .f32 0x00000000#32)

/-- The cosines, lane by lane. -/
def cosT : FVec F S1024x128 .f32 :=
  k0_pay16 (View.ld B.invf (Rect.unit ![0, 0] S64x1.size (by decide)))
    (View.ld B.pos (Rect.unit ![0, 0, 0] S1x1x1024.size (by decide)))

/-- The sines, lane by lane, negated on the low lanes. -/
def sinT : FVec F S1024x128 .f32 :=
  k0_pay17 (View.ld B.invf (Rect.unit ![0, 0] S64x1.size (by decide)))
    (View.ld B.pos (Rect.unit ![0, 0, 0] S1x1x1024.size (by decide)))

/-- Chunk `c`'s queries of head `h`. -/
def qHead (c h : Fin 4) : FVec F S256x128 .bf16 :=
  truncf .bf16 (rotary (lanes128 (B.piece c 0) h) (rows B.cosT c) (rows B.sinT c)) bitsLt_bf16_f32

/-- Chunk `c`'s keys of head `h`, scaled. -/
def kHead (c h : Fin 4) : FVec F S256x128 .f32 :=
  mulf (rotary (lanes128 (B.piece c 1) h) (rows B.cosT c) (rows B.sinT c))
    (broadcast S256x128 (Scalar.ofBits .f32 0x3DB504F3#32))

/-- Chunk `c`'s values of head `h`. -/
def vHead (c h : Fin 4) : FVec F S256x256 .bf16 :=
  truncf .bf16 (lanes256 (B.piece c ⟨2 + h.val / 2, by omega⟩) ⟨h.val % 2, by omega⟩) bitsLt_bf16_f32

/-- Head `h`'s retention state after chunk `c`, from the state `S` before it. -/
def after (c h : Fin 4) (S : FVec F S128x256 .f32) : FVec F S128x256 .f32 := stateOf h (B.kHead c h) (B.vHead c h) S

/-- Head `h`'s retention state before chunk `c`, and after the last. -/
def carried (c : Fin 5) (h : Fin 4) : FVec F S128x256 .f32 :=
  match c with
  | 0 => B.s0 h
  | 1 => B.after 0 h (B.s0 h)
  | 2 => B.after 1 h (B.after 0 h (B.s0 h))
  | 3 => B.after 2 h (B.after 1 h (B.after 0 h (B.s0 h)))
  | 4 => B.after 3 h (B.after 2 h (B.after 1 h (B.after 0 h (B.s0 h))))

/-- Head `h`'s gated retention over chunk `c`. -/
def retGated (c h : Fin 4) : FVec F S256x256 .bf16 :=
  retGatedOf (retOf h (B.qHead c h) (B.kHead c h) (B.vHead c h) (B.carried c.castSucc h))
    (lanes256 (B.piece c ⟨4 + h.val / 2, by omega⟩) ⟨h.val % 2, by omega⟩)
    (View.ld B.gret (Rect.unit ![0, 0, 0] S1x1x256.size (by decide)))

/-- Head `h`'s gated attention to the memory over chunk `c`. -/
def memGated (c h : Fin 4) : FVec F S256x128 .bf16 :=
  memGatedOf (logitsOf (lanes128 (B.piece c 6) h) (View.ld B.gq (Rect.unit ![0, 0, 0] S1x1x128.size (by decide)))
      (View.ld B.kt (Rect.unit ![0, 0, 128 * h.val, 0] S1x1x128x256.size (by revert h; decide))))
    (View.ld B.mv (Rect.unit ![0, 0, 0, 128 * h.val] S1x1x256x128.size (by revert h; decide)))
    (lanes128 (B.piece c 7) h)

/-- Chunk `c`'s mixers side by side. -/
def mixed (c : Fin 4) : FVec F S256x1536 .bf16 :=
  concatenate S256x1536 1 [⟨S256x256, B.retGated c 0⟩, ⟨S256x256, B.retGated c 1⟩, ⟨S256x256, B.retGated c 2⟩,
    ⟨S256x256, B.retGated c 3⟩, ⟨S256x128, B.memGated c 0⟩, ⟨S256x128, B.memGated c 1⟩, ⟨S256x128, B.memGated c 2⟩,
    ⟨S256x128, B.memGated c 3⟩]
    concatenates_S256x256_S256x256_S256x256_S256x256_S256x128_S256x128_S256x128_S256x128_S256x1536_d1

/-- Slab `j` of chunk `c`'s output: 256 columns. -/
def outPiece (c j : Fin 4) : FVec F S1x256x256 .f32 :=
  shapeCast S1x256x256 (addf
    (extractStridedSlice S256x256 ![0, 256 * j.val] (B.chunkX c) (by revert j; decide))
    (matmul dot_S256x1536_S1536x256_S256x256_1_0_0_1_n_n none (B.mixed c)
      (shapeCast S1536x256 (View.ld B.wout (Rect.unit ![0, 0, 256 * j.val] S1x1536x256.size (by revert j; decide)))
        shapeCasts_S1x1536x256_S1536x256) (constant S256x256 .f32 0x00000000#32))) shapeCasts_S256x256_S1x256x256

/-- The output's stores, last first: slabs of a chunk in order, chunks in order. -/
def outPieces : List (View.Piece (Elt F) S1x1024x1024 .f32) :=
  [⟨Rect.unit ![0, 768, 768] S1x256x256.size (by decide), B.outPiece 3 3⟩,
   ⟨Rect.unit ![0, 768, 512] S1x256x256.size (by decide), B.outPiece 3 2⟩,
   ⟨Rect.unit ![0, 768, 256] S1x256x256.size (by decide), B.outPiece 3 1⟩,
   ⟨Rect.unit ![0, 768, 0] S1x256x256.size (by decide), B.outPiece 3 0⟩,
   ⟨Rect.unit ![0, 512, 768] S1x256x256.size (by decide), B.outPiece 2 3⟩,
   ⟨Rect.unit ![0, 512, 512] S1x256x256.size (by decide), B.outPiece 2 2⟩,
   ⟨Rect.unit ![0, 512, 256] S1x256x256.size (by decide), B.outPiece 2 1⟩,
   ⟨Rect.unit ![0, 512, 0] S1x256x256.size (by decide), B.outPiece 2 0⟩,
   ⟨Rect.unit ![0, 256, 768] S1x256x256.size (by decide), B.outPiece 1 3⟩,
   ⟨Rect.unit ![0, 256, 512] S1x256x256.size (by decide), B.outPiece 1 2⟩,
   ⟨Rect.unit ![0, 256, 256] S1x256x256.size (by decide), B.outPiece 1 1⟩,
   ⟨Rect.unit ![0, 256, 0] S1x256x256.size (by decide), B.outPiece 1 0⟩,
   ⟨Rect.unit ![0, 0, 768] S1x256x256.size (by decide), B.outPiece 0 3⟩,
   ⟨Rect.unit ![0, 0, 512] S1x256x256.size (by decide), B.outPiece 0 2⟩,
   ⟨Rect.unit ![0, 0, 256] S1x256x256.size (by decide), B.outPiece 0 1⟩,
   ⟨Rect.unit ![0, 0, 0] S1x256x256.size (by decide), B.outPiece 0 0⟩]

/-- The state's stores, last first. -/
def statePieces : List (View.Piece (Elt F) S4x128x256 .f32) :=
  [⟨Rect.unit ![3, 0, 0] S1x128x256.size (by decide), shapeCast S1x128x256 (B.carried 4 3) shapeCasts_S128x256_S1x128x256⟩,
   ⟨Rect.unit ![2, 0, 0] S1x128x256.size (by decide), shapeCast S1x128x256 (B.carried 4 2) shapeCasts_S128x256_S1x128x256⟩,
   ⟨Rect.unit ![1, 0, 0] S1x128x256.size (by decide), shapeCast S1x128x256 (B.carried 4 1) shapeCasts_S128x256_S1x128x256⟩,
   ⟨Rect.unit ![0, 0, 0] S1x128x256.size (by decide), shapeCast S1x128x256 (B.carried 4 0) shapeCasts_S128x256_S1x128x256⟩]

end Blocks

end Cert.Layer.Body
-- ==== Proof.Reals.lean ====
/-
  Extended reals that are real numbers, and the two rearrangements the layer needs over them: a retention computed
  chunk by chunk is the retention computed position by position, and a softmax-weighted sum may be divided before or
  after the sum.
-/
module

public import Idealize.ShloMosaic.PureOps.Ideal
public import Idealize.ShloMosaic.Lib.IdealHost

@[expose] public section

noncomputable section

namespace Cert.Layer

open Idealize.ShloMosaic

/-! ## Extended reals that are real -/

/-- `x` is a real number: neither of the infinities. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

/-- A real extended real is the coercion of its real part. -/
theorem IsReal.coe_toReal {x : EReal} (h : IsReal x) : ((x.toReal : ℝ) : EReal) = x := by
  obtain ⟨r, rfl⟩ := h; simp

theorem IsReal.add {x y : EReal} (hx : IsReal x) (hy : IsReal y) : IsReal (x + y) := by
  obtain ⟨a, rfl⟩ := hx; obtain ⟨b, rfl⟩ := hy; exact ⟨a + b, by push_cast; rfl⟩

theorem IsReal.neg {x : EReal} (hx : IsReal x) : IsReal (-x) := by
  obtain ⟨a, rfl⟩ := hx; exact ⟨-a, by push_cast; rfl⟩

theorem IsReal.sub {x y : EReal} (hx : IsReal x) (hy : IsReal y) : IsReal (x - y) := by
  obtain ⟨a, rfl⟩ := hx; obtain ⟨b, rfl⟩ := hy; exact ⟨a - b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem IsReal.max {x y : EReal} (hx : IsReal x) (hy : IsReal y) : IsReal (max x y) := by
  rcases max_choice x y with h | h <;> rw [h] <;> assumption

/-- A finite sum of reals, taken in the extended reals, is the sum of the reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} {s : Finset ι} {f : ι → EReal} (h : ∀ i ∈ s, IsReal (f i)) : IsReal (∑ i ∈ s, f i) :=
  ⟨∑ i ∈ s, (f i).toReal, by rw [coe_sum]; exact Finset.sum_congr rfl fun i hi => (h i hi).coe_toReal.symm⟩

theorem IsReal.cos {x : EReal} (hx : IsReal x) : IsReal (Ideal.cos x) := by
  obtain ⟨a, rfl⟩ := hx; exact ⟨Real.cos a, rfl⟩

theorem IsReal.sin {x : EReal} (hx : IsReal x) : IsReal (Ideal.sin x) := by
  obtain ⟨a, rfl⟩ := hx; exact ⟨Real.sin a, rfl⟩

theorem IsReal.pow {x y : EReal} (hx : IsReal x) (hy : IsReal y) : IsReal (Ideal.pow x y) := by
  obtain ⟨a, rfl⟩ := hx; obtain ⟨b, rfl⟩ := hy; exact ⟨Real.rpow a b, rfl⟩

/-- The exponential of a real is a positive real. -/
theorem exp_coe (a : ℝ) : Ideal.exp (a : EReal) = ((Real.exp a : ℝ) : EReal) := rfl

theorem IsReal.exp {x : EReal} (hx : IsReal x) : IsReal (Ideal.exp x) := by
  obtain ⟨a, rfl⟩ := hx; exact ⟨Real.exp a, rfl⟩

theorem exp_pos {x : EReal} (hx : IsReal x) : 0 < Ideal.exp x := by
  obtain ⟨a, rfl⟩ := hx; rw [exp_coe]; exact_mod_cast Real.exp_pos a

/-- The inverse square root of a positive real is a real. -/
theorem IsReal.rsqrt {x : EReal} (hx : IsReal x) (h0 : 0 < x) : IsReal (Ideal.rsqrt x) := by
  obtain ⟨a, rfl⟩ := hx
  have ha : (0 : ℝ) < a := by exact_mod_cast h0
  refine ⟨(Real.sqrt a)⁻¹, ?_⟩
  show (if a < 0 then (⊥ : EReal) else if a = 0 then ⊤ else (((Real.sqrt a)⁻¹ : ℝ) : EReal)) = _
  rw [if_neg (not_lt.mpr ha.le), if_neg ha.ne']

/-- Division of reals, off zero. -/
theorem div_coe_coe (a b : ℝ) (hb : b ≠ 0) : Ideal.div (a : EReal) (b : EReal) = ((a / b : ℝ) : EReal) := by
  rw [Ideal.div_coe hb, ← EReal.coe_mul]; congr 1; ring

theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a b (by exact_mod_cast h0)⟩

theorem mul_self_nonneg' {x : EReal} (hx : IsReal x) : 0 ≤ x * x := by
  obtain ⟨a, rfl⟩ := hx; rw [← EReal.coe_mul]; exact_mod_cast mul_self_nonneg a

/-! ## Softmax: dividing inside or outside the weighted sum -/

/-- Over real weights with a positive total, the weighted sum divided by the total is the sum with each weight
    divided by the total. -/
theorem div_sum_eq {ι : Type*} [Fintype ι] (e v : ι → EReal) (he : ∀ i, IsReal (e i)) (h0 : 0 < ∑ i, e i) :
    Ideal.div (∑ i, e i * v i) (∑ i, e i) = ∑ i, Ideal.div (e i) (∑ i, e i) * v i := by
  obtain ⟨S, hS⟩ : IsReal (∑ i, e i) := IsReal.sum fun i _ => he i
  rw [hS] at h0 ⊢
  have hp : 0 < S := by exact_mod_cast h0
  have hd : ∀ x : EReal, Ideal.div x (S : EReal) = x * ((1 / S : ℝ) : EReal) := fun x => by
    rw [Ideal.div_coe hp.ne']
  have hc : (0 : EReal) ≤ ((1 / S : ℝ) : EReal) := by exact_mod_cast (by positivity : (0 : ℝ) ≤ 1 / S)
  have key : ∀ s : Finset ι, (∑ i ∈ s, e i * v i) * ((1 / S : ℝ) : EReal) = ∑ i ∈ s, e i * ((1 / S : ℝ) : EReal) * v i := fun s => by
    classical
    induction s using Finset.induction_on with
    | empty => simp
    | insert a s ha ih =>
      rw [Finset.sum_insert ha, Finset.sum_insert ha, EReal.right_distrib_of_nonneg_of_ne_top hc (EReal.coe_ne_top _), ih, mul_right_comm]
  simp only [hd]
  exact key Finset.univ

/-! ## Retention, by position and by chunk -/

/-- The retention state before position `n`: every earlier position's outer product `k vᵀ`, decayed to position
    `n - 1`. -/
def state (g : ℝ) {D E : ℕ} (k : ℕ → Fin D → ℝ) (v : ℕ → Fin E → ℝ) (n : ℕ) (d : Fin D) (e : Fin E) : ℝ :=
  ∑ s ∈ Finset.range n, g ^ (n - 1 - s) * (k s d * v s e)

/-- Retention at position `t`: `Σ_{s ≤ t} γ^(t - s) (q_t · k_s) v_s`. -/
def retention (g : ℝ) {D E : ℕ} (q k : ℕ → Fin D → ℝ) (v : ℕ → Fin E → ℝ) (t : ℕ) (e : Fin E) : ℝ :=
  ∑ s ∈ Finset.range (t + 1), g ^ (t - s) * ((∑ d, q t d * k s d) * v s e)

theorem state_zero (g : ℝ) {D E : ℕ} (k : ℕ → Fin D → ℝ) (v : ℕ → Fin E → ℝ) (d : Fin D) (e : Fin E) :
    state g k v 0 d e = 0 := by simp [state]

/-- One chunk of `C` positions carries the state on: `S(n + C) = γ^C S(n) + Σ_r γ^(C-1-r) k_{n+r} v_{n+r}`. -/
theorem state_add (g : ℝ) {D E : ℕ} (k : ℕ → Fin D → ℝ) (v : ℕ → Fin E → ℝ) (n C : ℕ) (d : Fin D) (e : Fin E) :
    state g k v (n + C) d e
      = g ^ C * state g k v n d e + ∑ r ∈ Finset.range C, (k (n + r) d * g ^ (C - 1 - r)) * v (n + r) e := by
  unfold state
  rw [Finset.sum_range_add]
  congr 1
  · rw [Finset.mul_sum]
    refine Finset.sum_congr rfl fun s hs => ?_
    have hs := Finset.mem_range.mp hs
    rw [show n + C - 1 - s = C + (n - 1 - s) by omega, pow_add]; ring
  · refine Finset.sum_congr rfl fun r hr => ?_
    have hr := Finset.mem_range.mp hr
    rw [show n + C - 1 - (n + r) = C - 1 - r by omega]; ring

/-- Position `n + r` of a chunk starting at `n`: the decayed scores within the chunk and the decayed state before it
    together are the retention. -/
theorem chunk_retention (g : ℝ) {D E : ℕ} (q k : ℕ → Fin D → ℝ) (v : ℕ → Fin E → ℝ) (n C r : ℕ) (hr : r < C) (e : Fin E) :
    (∑ r' ∈ Finset.range C, ((∑ d, q (n + r) d * k (n + r') d) * (if r' ≤ r then g ^ (r - r') else 0)) * v (n + r') e)
        + (∑ d, q (n + r) d * state g k v n d e) * g ^ (r + 1)
      = retention g q k v (n + r) e := by
  unfold retention
  rw [show n + r + 1 = n + (r + 1) by omega, Finset.sum_range_add, add_comm]
  congr 1
  · unfold state
    simp only [Finset.mul_sum, Finset.sum_mul]
    rw [Finset.sum_comm]
    refine Finset.sum_congr rfl fun s hs => Finset.sum_congr rfl fun d _ => ?_
    have hs := Finset.mem_range.mp hs
    rw [show n + r - s = (n - 1 - s) + (r + 1) by omega, pow_add]; ring
  · rw [← Finset.sum_subset (Finset.range_subset_range.mpr (show r + 1 ≤ C by omega))]
    · refine Finset.sum_congr rfl fun s hs => ?_
      have hs := Finset.mem_range.mp hs
      rw [if_pos (by omega), show n + r - (n + s) = r - s by omega]; ring
    · intro s _ hs
      have hs : ¬ s < r + 1 := fun h => hs (Finset.mem_range.mpr h)
      rw [if_neg (by omega)]; ring

end Cert.Layer

end
-- ==== Proof.Spec.lean ====
module

public import proofs.«01_k».proof.Proof.Reals

@[expose] public section

/-!
# The layer's mathematics, row by row

Everything both programs compute, as functions of one token's row (or one head's rows) over the extended reals:
the root mean square normalisation, the in-projection, the rotary embedding, the gate `y / (1 + e^{-y})`, the
attention to the memory, and the retention, which alone looks at earlier tokens and is stated over the reals.
-/

open Idealize.ShloMosaic

noncomputable section

namespace Cert.Layer

/-- Root mean square normalisation of a row `f` with gain `g`; `cn` is the row's length as a float. -/
def rms {n : ℕ} (cn : BitVec 32) (f g : Fin n → EReal) (i : Fin n) : EReal :=
  f i * Ideal.rsqrt (Ideal.div (∑ j, f j * f j) (Ideal.ofBits .f32 cn) + Ideal.ofBits .f32 0x358637BD#32) * g i

/-- The in-projection of a token's row `x`: normalise, then multiply by the weights. -/
def inProj {n w : ℕ} (cn : BitVec 32) (x g : Fin n → EReal) (win : Fin n → Fin w → EReal) (j : Fin w) : EReal :=
  ∑ d, rms cn x g d * win d j

/-- The rotary embedding of a head's row `f` by the angles `a`: lanes `i` and `64 + i` turn by angle `a i`. -/
def rot (f : Fin 128 → EReal) (a : Fin 64 → EReal) (d : Fin 128) : EReal :=
  if h : d.val < 64 then
    f d * Ideal.cos (a ⟨d.val, h⟩) - f ⟨d.val + 64, by omega⟩ * Ideal.sin (a ⟨d.val, h⟩)
  else
    f ⟨d.val - 64, by omega⟩ * Ideal.sin (a ⟨d.val - 64, by omega⟩) + f d * Ideal.cos (a ⟨d.val - 64, by omega⟩)

/-- The gate `y / (1 + e^{-y})`. -/
def silu (y : EReal) : EReal := y * Ideal.div 1 (1 + Ideal.exp (-y))

/-- A token's logits against the memory's keys `k` (one column per memory slot). -/
def memLogit (f g : Fin 128 → EReal) (k : Fin 128 → Fin 256 → EReal) (m : Fin 256) : EReal :=
  (∑ d, rms 0x43000000#32 f g d * k d m) * Ideal.ofBits .f32 0x3DB504F3#32

/-- The numerators of the softmax over the memory slots: the exponential of each logit less the row's maximum. -/
def memExp (f g : Fin 128 → EReal) (k : Fin 128 → Fin 256 → EReal) (m : Fin 256) : EReal :=
  Ideal.exp (memLogit f g k m - Finset.univ.fold max ⊥ (memLogit f g k))

/-- A token's attention to the memory: the memory's values weighted by the numerators, over the numerators' sum. -/
def memory (f g : Fin 128 → EReal) (k : Fin 128 → Fin 256 → EReal) (v : Fin 256 → Fin 128 → EReal) (e : Fin 128) : EReal :=
  Ideal.div (∑ m, memExp f g k m * v m e) (∑ m, memExp f g k m)

/-- The layer's arguments, read entry by entry. -/
structure Args where
  x : Fin 2 → Fin 8192 → Fin 1024 → EReal
  pos : Fin 2 → Fin 8192 → EReal
  gn : Fin 1024 → EReal
  win : Fin 1024 → Fin 4096 → EReal
  gret : Fin 256 → EReal
  wout : Fin 1536 → Fin 1024 → EReal
  kt : Fin 2 → Fin 512 → Fin 256 → EReal
  mv : Fin 2 → Fin 256 → Fin 512 → EReal
  gq : Fin 128 → EReal
  invf : Fin 64 → EReal

namespace Args
variable (A : Args)

/-- The in-projection of token `t` of sequence `b`. -/
def u (b : Fin 2) (t : Fin 8192) : Fin 4096 → EReal := inProj 0x44800000#32 (A.x b t) A.gn A.win

/-- The rotary angles of token `t`. -/
def angle (b : Fin 2) (t : Fin 8192) (i : Fin 64) : EReal := A.pos b t * A.invf i

/-- Query of head `h`. -/
def q (b : Fin 2) (h : Fin 4) (t : Fin 8192) : Fin 128 → EReal :=
  rot (fun d => A.u b t ⟨h.val * 128 + d.val, by omega⟩) (A.angle b t)

/-- Key of head `h`, scaled. -/
def k (b : Fin 2) (h : Fin 4) (t : Fin 8192) (d : Fin 128) : EReal :=
  rot (fun d => A.u b t ⟨512 + h.val * 128 + d.val, by omega⟩) (A.angle b t) d * Ideal.ofBits .f32 0x3DB504F3#32

/-- Value of head `h`. -/
def v (b : Fin 2) (h : Fin 4) (t : Fin 8192) (e : Fin 256) : EReal := A.u b t ⟨1024 + h.val * 256 + e.val, by omega⟩

/-- Queries by position, over the reals. -/
def qR (b : Fin 2) (h : Fin 4) (s : ℕ) (d : Fin 128) : ℝ := (A.q b h (Fin.ofNat 8192 s) d).toReal
/-- Keys by position, over the reals. -/
def kR (b : Fin 2) (h : Fin 4) (s : ℕ) (d : Fin 128) : ℝ := (A.k b h (Fin.ofNat 8192 s) d).toReal
/-- Values by position, over the reals. -/
def vR (b : Fin 2) (h : Fin 4) (s : ℕ) (e : Fin 256) : ℝ := (A.v b h (Fin.ofNat 8192 s) e).toReal

end Args

/-- The decay of head `h`: 31/32, 63/64, 127/128, 255/256. -/
def gamma (h : Fin 4) : ℝ := ![31 / 32, 63 / 64, 127 / 128, 255 / 256] h

namespace Args
variable (A : Args)

/-- The retention of head `h` at token `t`. -/
def ret (b : Fin 2) (h : Fin 4) (t : Fin 8192) (e : Fin 256) : EReal :=
  ((retention (gamma h) (A.qR b h) (A.kR b h) (A.vR b h) t.val e : ℝ) : EReal)

/-- The retention state of head `h` before position `n`. -/
def st (b : Fin 2) (h : Fin 4) (n : ℕ) (d : Fin 128) (e : Fin 256) : EReal :=
  ((state (gamma h) (A.kR b h) (A.vR b h) n d e : ℝ) : EReal)

/-- The gated, normalised retention of head `h`. -/
def retGated (b : Fin 2) (h : Fin 4) (t : Fin 8192) (e : Fin 256) : EReal :=
  rms 0x43800000#32 (A.ret b h t) A.gret e * silu (A.u b t ⟨2048 + h.val * 256 + e.val, by omega⟩)

/-- The attention of memory head `h`. -/
def memo (b : Fin 2) (h : Fin 4) (t : Fin 8192) (e : Fin 128) : EReal :=
  memory (fun d => A.u b t ⟨3072 + h.val * 128 + d.val, by omega⟩) A.gq
    (fun d m => A.kt b ⟨h.val * 128 + d.val, by omega⟩ m) (fun m d => A.mv b m ⟨h.val * 128 + d.val, by omega⟩) e

/-- The gated attention of memory head `h`. -/
def memGated (b : Fin 2) (h : Fin 4) (t : Fin 8192) (e : Fin 128) : EReal :=
  A.memo b h t e * silu (A.u b t ⟨3584 + h.val * 128 + e.val, by omega⟩)

/-- The mixers' outputs side by side: four retention heads of 256 lanes, then four memory heads of 128. -/
def mixed (b : Fin 2) (t : Fin 8192) (j : Fin 1536) : EReal :=
  if hj : j.val < 1024 then A.retGated b ⟨j.val / 256, by omega⟩ t ⟨j.val % 256, by omega⟩
  else A.memGated b ⟨(j.val - 1024) / 128, by omega⟩ t ⟨(j.val - 1024) % 128, by omega⟩

/-- The layer's output: the input plus the out-projection of the mixers. -/
def y (b : Fin 2) (t : Fin 8192) (d : Fin 1024) : EReal := A.x b t d + ∑ j, A.mixed b t j * A.wout j d

/-- Every argument the retention and the memory's logits depend on is real. -/
structure Finite : Prop where
  x : ∀ b t d, IsReal (A.x b t d)
  pos : ∀ b t, IsReal (A.pos b t)
  gn : ∀ d, IsReal (A.gn d)
  win : ∀ d j, IsReal (A.win d j)
  invf : ∀ i, IsReal (A.invf i)
  kt : ∀ b d m, IsReal (A.kt b d m)
  gq : ∀ d, IsReal (A.gq d)

end Args

end Cert.Layer
-- ==== Proof.ReadA.lean ====
module

public import proofs.«01_k».proof.Proof.Model
public import proofs.«01_k».proof.Proof.Spec
public import Idealize.ShloMosaic.Lib.Pipeline.ValueKit
public import Idealize.ShloMosaic.Lib.Pointwise
public import Idealize.ShloMosaic.Lib.ValueIdx

@[expose] public section

/-!
# The body's values, entry by entry

Each value of the chunk-by-chunk body at an index, over the extended reals.
-/

open Idealize.ShloMosaic Idealize.ShloMosaic.TcCoe
open Cert.KernelIdeal Cert.KernelIdeal.Gen

set_option maxRecDepth 16384

noncomputable section

namespace Cert.Layer.Body

theorem lanes128_apply (u : FVec Ideal S256x512 .f32) (h : Fin 4) (r : Fin 256) (d : Fin 128) :
    lanes128 u h (ix2 r d) = u (ix2 r ⟨128 * h.val + d.val, by omega⟩) := by
  pointwise [lanes128]

theorem lanes256_apply (u : FVec Ideal S256x512 .f32) (h : Fin 2) (r : Fin 256) (d : Fin 256) :
    lanes256 u h (ix2 r d) = u (ix2 r ⟨256 * h.val + d.val, by omega⟩) := by
  pointwise [lanes256]

theorem rows_apply (T : FVec Ideal S1024x128 .f32) (c : Fin 4) (r : Fin 256) (d : Fin 128) :
    rows T c (ix2 r d) = T (ix2 ⟨256 * c.val + r.val, by omega⟩ d) := by
  pointwise [rows]

theorem rotary_apply (t cs sn : FVec Ideal S256x128 .f32) (r : Fin 256) (d : Fin 128) :
    rotary t cs sn (ix2 r d) = t (ix2 r d) * cs (ix2 r d)
      + t (ix2 r ⟨(d.val + 128 - 64) % 128, by omega⟩) * sn (ix2 r d) := by
  pointwise [rotary]

theorem low_lane (d : Fin 128) : IntOp.cmpi CmpIPredicate.slt (BitVec.ofNat 32 d.val) 64#32 = if d.val < 64 then 1#1 else 0#1 := by
  revert d; decide

theorem cosT_apply (iv : Vec Ideal S64x1 .f32) (ps : Vec Ideal S1x1x1024 .f32) (r : Fin 1024) (d : Fin 128) :
    k0_pay16 iv ps (ix2 r d) = Ideal.cos (ps (ix3 0 0 r) * iv (ix2 ⟨d.val % 64, by omega⟩ 0)) := by
  pointwise [k0_pay16, k0_pay15, k0_pay14, k0_pay13, k0_pay12]
  rw [low_lane, mul_comm (ps _)]
  by_cases hd : d.val < 64
  · have e : (⟨d.val, hd⟩ : Fin 64) = ⟨d.val % 64, by omega⟩ := Fin.ext (by simp only []; omega)
    simp [Scalar.select, hd, e]
  · have h2 : (d.val + 64) % 128 < 64 := by omega
    have e : (⟨(d.val + 64) % 128, h2⟩ : Fin 64) = ⟨d.val % 64, by omega⟩ := Fin.ext (by simp only []; omega)
    simp [Scalar.select, hd, h2, e]

theorem sinT_apply (iv : Vec Ideal S64x1 .f32) (ps : Vec Ideal S1x1x1024 .f32) (r : Fin 1024) (d : Fin 128) :
    k0_pay17 iv ps (ix2 r d) = if d.val < 64 then - Ideal.sin (ps (ix3 0 0 r) * iv (ix2 ⟨d.val % 64, by omega⟩ 0))
       else  Ideal.sin (ps (ix3 0 0 r) * iv (ix2 ⟨d.val % 64, by omega⟩ 0)) := by
  pointwise [k0_pay17, k0_pay15, k0_pay14, k0_pay13, k0_pay12]
  rw [low_lane, mul_comm (ps _)]
  by_cases hd : d.val < 64
  · have h2 : ¬ (d.val + 64) % 128 < 64 := by omega
    have e : (⟨(d.val + 64) % 128 - 64, by omega⟩ : Fin 64) = ⟨d.val % 64, by omega⟩ := Fin.ext (by simp only []; omega)
    simp [Scalar.select, hd, h2, e]
  · have e : (⟨d.val - 64, by omega⟩ : Fin 64) = ⟨d.val % 64, by omega⟩ := Fin.ext (by simp only []; omega)
    simp [Scalar.select, hd, e]

theorem scoresOf_apply (q k : FVec Ideal S256x128 .bf16) (r s : Fin 256) :
    scoresOf q k (ix2 r s) = ∑ d, q (ix2 r d) * k (ix2 s d) := by
  pointwise [scoresOf]

theorem ofBits_255 : Ideal.ofBits .f32 0x437F0000#32 = ((255 : ℝ) : EReal) := by
  simp [Ideal.ofBits, Ideal.ieee, -EReal.coe_mul]; norm_num

theorem ofBits_bot : Ideal.ofBits .f32 0xFF800000#32 = ⊥ := by
  simp [Ideal.ofBits, Ideal.ieee]

theorem gamma_pos (h : Fin 4) : 0 < gamma h := by
  fin_cases h <;> norm_num [gamma]

theorem logGamma_eq (h : Fin 4) : logGamma (F := Ideal) h = ((Real.log (gamma h) : ℝ) : EReal) := by
  fin_cases h <;> rfl

theorem gammaChunk_eq (h : Fin 4) : gammaChunk (F := Ideal) h = ((gamma h ^ 256 : ℝ) : EReal) := by
  fin_cases h <;> (refine (show _ = ((_ : ℝ) : EReal) from rfl).trans (congrArg _ ?_); norm_num [gamma])

/-- The exponential of a natural multiple of `log γ` is the power of `γ`. -/
theorem exp_mul_log (h : Fin 4) (n : ℕ) (x : ℝ) (hx : x = n) :
    Ideal.exp ((x : EReal) * ((Real.log (gamma h) : ℝ) : EReal)) = ((gamma h ^ n : ℝ) : EReal) := by
  rw [← EReal.coe_mul, exp_coe, hx, ← Real.log_pow, Real.exp_log (pow_pos (gamma_pos h) n)]

theorem toInt_row (r : Fin 256) : (BitVec.ofNat 32 r.val).toInt = r.val := by
  rw [BitVec.toInt_ofNat', Int.bmod_def]
  have := r.isLt
  split <;> omega

theorem toInt_rel (r s : Fin 256) :
    (IntOp.subi (BitVec.ofNat 32 r.val) (BitVec.ofNat 32 s.val)).toInt = (r.val : ℤ) - s.val := by
  rw [show IntOp.subi (BitVec.ofNat 32 r.val) (BitVec.ofNat 32 s.val) = BitVec.ofNat 32 r.val - BitVec.ofNat 32 s.val from rfl,
    BitVec.toInt_sub, toInt_row, toInt_row]
  have := r.isLt; have := s.isLt
  rw [Int.bmod_def]; split <;> omega

theorem sitofp_row (r : Fin 256) :
    FloatOps.sitofp (F := Ideal) FTy.f32 (BitVec.ofNat 32 r.val) = (((r.val : ℝ)) : EReal) := by
  show (((BitVec.ofNat 32 r.val).toInt : ℝ) : EReal) = _
  rw [toInt_row]; norm_num

theorem sitofp_rel (r s : Fin 256) :
    FloatOps.sitofp (F := Ideal) FTy.f32 (IntOp.subi (BitVec.ofNat 32 r.val) (BitVec.ofNat 32 s.val))
      = ((((r.val : ℤ) - s.val : ℤ) : ℝ) : EReal) := by
  show (((IntOp.subi (BitVec.ofNat 32 r.val) (BitVec.ofNat 32 s.val)).toInt : ℝ) : EReal) = _
  rw [toInt_rel]

theorem decay_apply (h : Fin 4) (r s : Fin 256) :
    decay (F := Ideal) h (ix2 r s) = ((if s.val ≤ r.val then gamma h ^ (r.val - s.val) else 0 : ℝ) : EReal) := by
  pointwise [decay, rel]
  rw [sitofp_rel, logGamma_eq]
  by_cases hs : s.val ≤ r.val
  · have h0 : (0 : ℝ) ≤ (((r.val : ℤ) - s.val : ℤ) : ℝ) := by exact_mod_cast (by omega : (0 : ℤ) ≤ (r.val : ℤ) - s.val)
    rw [if_pos (by exact_mod_cast h0), if_pos hs, max_eq_left (by exact_mod_cast h0)]
    exact exp_mul_log h _ _ (by push_cast [Nat.cast_sub hs]; ring)
  · have h0 : ¬ (0 : ℝ) ≤ (((r.val : ℤ) - s.val : ℤ) : ℝ) := by
      intro h; exact hs (by have := (by exact_mod_cast h : (0 : ℤ) ≤ (r.val : ℤ) - s.val); omega)
    rw [if_neg (by exact_mod_cast h0), if_neg hs]; rfl

theorem xi_apply (h : Fin 4) (r : Fin 256) :
    xi (F := Ideal) h (ix2 r 0) = ((gamma h ^ (r.val + 1) : ℝ) : EReal) := by
  pointwise [xi, rowNo]
  rw [sitofp_row, logGamma_eq]
  exact exp_mul_log h (r.val + 1) ((r.val : ℝ) + 1) (by push_cast; ring)

theorem zeta_apply (h : Fin 4) (r : Fin 256) :
    zeta (F := Ideal) h (ix2 r 0) = ((gamma h ^ (255 - r.val) : ℝ) : EReal) := by
  pointwise [zeta, rowNo]
  rw [sitofp_row, logGamma_eq, ofBits_255, ← EReal.coe_sub]
  exact exp_mul_log h _ _ (by rw [Nat.cast_sub (by omega)]; push_cast; ring)

theorem retOf_apply (h : Fin 4) (q : FVec Ideal S256x128 .bf16) (k : FVec Ideal S256x128 .f32) (v : FVec Ideal S256x256 .bf16)
    (S : FVec Ideal S128x256 .f32) (r e : Fin 256) :
    retOf h q k v S (ix2 r e) = (∑ s, ((∑ d, q (ix2 r d) * k (ix2 s d)) * decay (F := Ideal) h (ix2 r s)) * v (ix2 s e))
      + (∑ d, q (ix2 r d) * S (ix2 d e)) * xi (F := Ideal) h (ix2 r 0) := by
  pointwise [retOf, scoresOf]

theorem stateOf_apply (h : Fin 4) (k : FVec Ideal S256x128 .f32) (v : FVec Ideal S256x256 .bf16)
    (S : FVec Ideal S128x256 .f32) (d : Fin 128) (e : Fin 256) :
    stateOf h k v S (ix2 d e) = gammaChunk (F := Ideal) h * S (ix2 d e)
      + ∑ s, (k (ix2 s d) * zeta (F := Ideal) h (ix2 s 0)) * v (ix2 s e) := by
  pointwise [stateOf]

theorem silu256_apply (y : FVec Ideal S256x256 .f32) (r e : Fin 256) :
    silu256 y (ix2 r e) = silu (y (ix2 r e)) := by
  pointwise [silu256, silu]
  rw [zero_sub]

theorem retGatedOf_apply (x gate : FVec Ideal S256x256 .f32) (g : Vec Ideal S1x1x256 .f32) (r e : Fin 256) :
    retGatedOf x gate g (ix2 r e) = rms 0x43800000#32 (fun e => x (ix2 r e)) (fun e => g (ix3 0 0 e)) e
      * silu (gate (ix2 r e)) := by
  pointwise [retGatedOf, rms, silu256, silu]
  rw [zero_sub]

theorem logitsOf_apply (f : FVec Ideal S256x128 .f32) (g : Vec Ideal S1x1x128 .f32) (k : Vec Ideal S1x1x128x256 .bf16) (r m : Fin 256) :
    logitsOf f g k (ix2 r m) = memLogit (fun d => f (ix2 r d)) (fun d => g (ix3 0 0 d)) (fun d m => k (ix4 0 0 d m)) m := by
  pointwise [logitsOf, memLogit, rms]

theorem expsOf_apply (l : FVec Ideal S256x256 .f32) (r m : Fin 256) :
    expsOf l (ix2 r m) = Ideal.exp (l (ix2 r m) - Finset.univ.fold max ⊥ (fun m => l (ix2 r m))) := by
  pointwise [expsOf]
  rw [ofBits_bot]

theorem memGatedOf_apply (l : FVec Ideal S256x256 .f32) (v : Vec Ideal S1x1x256x128 .bf16) (gate : FVec Ideal S256x128 .f32)
    (r : Fin 256) (e : Fin 128) :
    memGatedOf l v gate (ix2 r e) = Ideal.div (∑ m, expsOf l (ix2 r m) * v (ix4 0 0 m e)) (∑ m, expsOf l (ix2 r m))
      * silu (gate (ix2 r e)) := by
  pointwise [memGatedOf, silu128, silu]
  rw [zero_sub]

theorem slab_x (X : Vec Ideal S1x256x1024 .f32) (r : Fin 256) (d : Fin 1024) :
    shapeCast S256x1024 X shapeCasts_S1x256x1024_S256x1024 (ix2 r d) = X (ix3 0 r d) := by
  pointwise

theorem slab_win (X : Vec Ideal S1x1024x512 .bf16) (r : Fin 1024) (d : Fin 512) :
    shapeCast S1024x512 X shapeCasts_S1x1024x512_S1024x512 (ix2 r d) = X (ix3 0 r d) := by
  pointwise

theorem slab_wout (X : Vec Ideal S1x1536x256 .bf16) (r : Fin 1536) (d : Fin 256) :
    shapeCast S1536x256 X shapeCasts_S1x1536x256_S1536x256 (ix2 r d) = X (ix3 0 r d) := by
  pointwise

theorem slab_state (X : Vec Ideal S1x128x256 .f32) (r : Fin 128) (d : Fin 256) :
    shapeCast S128x256 X shapeCasts_S1x128x256_S128x256 (ix2 r d) = X (ix3 0 r d) := by
  pointwise

theorem slab_toState (X : Vec Ideal S128x256 .f32) (r : Fin 128) (d : Fin 256) :
    shapeCast S1x128x256 X shapeCasts_S128x256_S1x128x256 (ix3 0 r d) = X (ix2 r d) := by
  pointwise

theorem slab_out (X : Vec Ideal S256x256 .f32) (r : Fin 256) (d : Fin 256) :
    shapeCast S1x256x256 X shapeCasts_S256x256_S1x256x256 (ix3 0 r d) = X (ix2 r d) := by
  pointwise

namespace Blocks
variable (B : Blocks Ideal)

theorem chunkX_apply (c : Fin 4) (r : Fin 256) (d : Fin 1024) :
    B.chunkX c (ix2 r d) = B.x (ix3 0 ⟨256 * c.val + r.val, by omega⟩ d) := by
  unfold chunkX
  exact (slab_x _ r d).trans (View.ld_unit_apply_of _ _ _ _ _ _ (by intro a; fin_cases a <;> simp))

theorem norm_apply (X : FVec Ideal S256x1024 .f32) (g : Vec Ideal S1x1x1024 .f32) (r : Fin 256) (d : Fin 1024) :
    k0_pay11 X g (ix2 r d) = rms 0x44800000#32 (fun d => X (ix2 r d)) (fun d => g (ix3 0 0 d)) d := by
  pointwise [k0_pay11, rms]

/-- Slab `p` of a chunk's in-projection, entry by entry. -/
theorem piece_apply (c : Fin 4) (p : Fin 8) (r : Fin 256) (j : Fin 512) :
    B.piece c p (ix2 r j) = inProj 0x44800000#32 (fun d => B.x (ix3 0 ⟨256 * c.val + r.val, by omega⟩ d))
      (fun d => B.gn (ix3 0 0 d)) (fun d j => B.win (ix3 0 d j)) ⟨512 * p.val + j.val, by omega⟩ := by
  unfold piece inProj
  rw [View.ld_unit_lit' _ _ (by decide)]
  generalize hX : B.chunkX c = X
  generalize hW : shapeCast S1024x512 (View.ld B.win _) _ = W
  pointwise
  refine Finset.sum_congr rfl fun d _ => ?_
  rw [norm_apply, ← hX, ← hW]
  congr 1
  · congr 1; funext d; exact chunkX_apply B c r d
  · exact (slab_win _ d j).trans (View.ld_unit_apply_of _ _ _ _ _ _ (by intro a; fin_cases a <;> simp))

end Blocks

end Cert.Layer.Body
-- ==== Proof.Finite.lean ====
module

public import proofs.«01_k».proof.Proof.Spec

@[expose] public section

/-!
# The layer's values are real

From real arguments every value the retention reads is real, and over reals a chunk of the retention is the retention.
-/

open Idealize.ShloMosaic

noncomputable section

namespace Cert.Layer

/-- The small positive constant under the square root. -/
theorem ofBits_eps : ∃ r : ℝ, 0 < r ∧ Ideal.ofBits .f32 0x358637BD#32 = (r : EReal) := by
  refine ⟨_, ?_, by simp [Ideal.ofBits, Ideal.ieee, -EReal.coe_mul]; rfl⟩
  norm_num

/-- The row length 1024 as a float. -/
theorem ofBits_1024 : Ideal.ofBits .f32 0x44800000#32 = ((1024 : ℝ) : EReal) := by
  simp [Ideal.ofBits, Ideal.ieee, -EReal.coe_mul]; norm_num

/-- The row length 128 as a float. -/
theorem ofBits_128 : Ideal.ofBits .f32 0x43000000#32 = ((128 : ℝ) : EReal) := by
  simp [Ideal.ofBits, Ideal.ieee, -EReal.coe_mul]; norm_num

/-- The scale of the keys and of the memory logits. -/
theorem isReal_scale : IsReal (Ideal.ofBits .f32 0x3DB504F3#32) :=
  ⟨_, by simp [Ideal.ofBits, Ideal.ieee, -EReal.coe_mul]; rfl⟩

/-- A normalised row of reals is real. -/
theorem isReal_rms {n : ℕ} {cn : BitVec 32} (hc : ∃ c : ℝ, 0 < c ∧ Ideal.ofBits .f32 cn = (c : EReal)) {f g : Fin n → EReal}
    (hf : ∀ i, IsReal (f i)) (hg : ∀ i, IsReal (g i)) (i : Fin n) : IsReal (rms cn f g i) := by
  obtain ⟨c, hc0, hc⟩ := hc
  obtain ⟨ε, hε0, hε⟩ := ofBits_eps
  choose f' hf' using hf
  obtain rfl : f = fun i => (f' i : EReal) := funext hf'
  unfold rms
  rw [hc, hε]
  simp only [← EReal.coe_mul, ← coe_sum]
  rw [div_coe_coe _ _ hc0.ne', ← EReal.coe_add]
  refine IsReal.mul (IsReal.mul (isReal_coe _) (IsReal.rsqrt (isReal_coe _) ?_)) (hg i)
  have : 0 ≤ ∑ j, f' j * f' j := Finset.sum_nonneg fun j _ => mul_self_nonneg _
  exact_mod_cast (by positivity : 0 < (∑ j, f' j * f' j) / c + ε)

/-- The in-projection of reals is real. -/
theorem isReal_inProj {n w : ℕ} {cn : BitVec 32} (hc : ∃ c : ℝ, 0 < c ∧ Ideal.ofBits .f32 cn = (c : EReal))
    {x g : Fin n → EReal} {win : Fin n → Fin w → EReal} (hx : ∀ i, IsReal (x i)) (hg : ∀ i, IsReal (g i))
    (hw : ∀ i j, IsReal (win i j)) (j : Fin w) : IsReal (inProj cn x g win j) :=
  IsReal.sum fun d _ => (isReal_rms hc hx hg d).mul (hw d j)

/-- The rotary embedding of reals by real angles is real. -/
theorem isReal_rot {f : Fin 128 → EReal} {a : Fin 64 → EReal} (hf : ∀ i, IsReal (f i)) (ha : ∀ i, IsReal (a i)) (d : Fin 128) :
    IsReal (rot f a d) := by
  unfold rot
  split
  · exact ((hf _).mul (ha _).cos).sub ((hf _).mul (ha _).sin)
  · exact ((hf _).mul (ha _).sin).add ((hf _).mul (ha _).cos)

theorem isReal_memLogit {f g : Fin 128 → EReal} {k : Fin 128 → Fin 256 → EReal} (hf : ∀ i, IsReal (f i))
    (hg : ∀ i, IsReal (g i)) (hk : ∀ i j, IsReal (k i j)) (m : Fin 256) : IsReal (memLogit f g k m) :=
  (IsReal.sum fun d _ => (isReal_rms ⟨128, by norm_num, ofBits_128⟩ hf hg d).mul (hk d m)).mul isReal_scale

/-- The maximum of a nonempty row of reals is real. -/
theorem isReal_fold_max {n : ℕ} (f : Fin (n + 1) → EReal) (hf : ∀ i, IsReal (f i)) : IsReal (Finset.univ.fold max ⊥ f) := by
  have key : ∀ s : Finset (Fin (n + 1)), s.Nonempty → IsReal (s.fold max ⊥ f) := by
    classical
    intro s hs
    induction hs using Finset.Nonempty.cons_induction with
    | singleton a => simpa using hf a
    | cons a s h _ ih => rw [Finset.fold_cons]; exact (hf a).max ih
  exact key _ Finset.univ_nonempty

theorem isReal_memExp {f g : Fin 128 → EReal} {k : Fin 128 → Fin 256 → EReal} (hf : ∀ i, IsReal (f i))
    (hg : ∀ i, IsReal (g i)) (hk : ∀ i j, IsReal (k i j)) (m : Fin 256) : IsReal (memExp f g k m) :=
  ((isReal_memLogit hf hg hk m).sub (isReal_fold_max (n := 255) _ (isReal_memLogit hf hg hk))).exp

/-- The numerators' sum is positive. -/
theorem sum_memExp_pos {f g : Fin 128 → EReal} {k : Fin 128 → Fin 256 → EReal} (hf : ∀ i, IsReal (f i))
    (hg : ∀ i, IsReal (g i)) (hk : ∀ i j, IsReal (k i j)) : 0 < ∑ m, memExp f g k m := by
  have hp : ∀ m, 0 < memExp f g k m := fun m =>
    exp_pos ((isReal_memLogit hf hg hk m).sub (isReal_fold_max (n := 255) _ (isReal_memLogit hf hg hk)))
  exact lt_of_lt_of_le (hp 0) (Finset.single_le_sum (fun m _ => (hp m).le) (Finset.mem_univ 0))

/-- Dividing each numerator by the sum, instead of the weighted sum, gives the attention to the memory. -/
theorem memory_eq {f g : Fin 128 → EReal} {k : Fin 128 → Fin 256 → EReal} {v : Fin 256 → Fin 128 → EReal}
    (hf : ∀ i, IsReal (f i)) (hg : ∀ i, IsReal (g i)) (hk : ∀ i j, IsReal (k i j)) (e : Fin 128) :
    memory f g k v e = ∑ m, Ideal.div (memExp f g k m) (∑ m, memExp f g k m) * v m e :=
  div_sum_eq _ _ (isReal_memExp hf hg hk) (sum_memExp_pos hf hg hk)

/-! ## A chunk of the retention, over the extended reals -/

/-- The decayed scores within a chunk of `C` positions and the decayed state before it are the retention. -/
theorem chunk_out (g : ℝ) {D E : ℕ} (q k : ℕ → Fin D → ℝ) (v : ℕ → Fin E → ℝ) (n C : ℕ) (r : Fin C) (e : Fin E) :
    (∑ s : Fin C, ((∑ d, (q (n + r) d : EReal) * (k (n + s) d : EReal))
        * ((if s.val ≤ r.val then g ^ (r.val - s.val) else 0 : ℝ) : EReal)) * (v (n + s) e : EReal))
      + (∑ d, (q (n + r) d : EReal) * (state g k v n d e : EReal)) * ((g ^ (r.val + 1) : ℝ) : EReal)
      = ((retention g q k v (n + r) e : ℝ) : EReal) := by
  simp only [← EReal.coe_mul, ← coe_sum, ← EReal.coe_add]
  rw [← chunk_retention g q k v n C r r.isLt e, Finset.sum_range]

/-- The state after a chunk of `C` positions, from the state before it. -/
theorem chunk_state (g : ℝ) {D E : ℕ} (k : ℕ → Fin D → ℝ) (v : ℕ → Fin E → ℝ) (n C : ℕ) (d : Fin D) (e : Fin E) :
    ((g ^ C : ℝ) : EReal) * (state g k v n d e : EReal)
      + ∑ r : Fin C, ((k (n + r) d : EReal) * ((g ^ (C - 1 - r.val) : ℝ) : EReal)) * (v (n + r) e : EReal)
      = ((state g k v (n + C) d e : ℝ) : EReal) := by
  simp only [← EReal.coe_mul, ← coe_sum, ← EReal.coe_add]
  rw [state_add, Finset.sum_range]

namespace Args
variable {A : Args} (H : A.Finite)
include H

theorem Finite.u (b : Fin 2) (t : Fin 8192) (j : Fin 4096) : IsReal (A.u b t j) :=
  isReal_inProj ⟨1024, by norm_num, ofBits_1024⟩ (H.x b t) H.gn H.win j

theorem Finite.angle (b : Fin 2) (t : Fin 8192) (i : Fin 64) : IsReal (A.angle b t i) := (H.pos b t).mul (H.invf i)

theorem Finite.q (b : Fin 2) (h : Fin 4) (t : Fin 8192) (d : Fin 128) : IsReal (A.q b h t d) :=
  isReal_rot (fun _ => H.u b t _) (H.angle b t) d

theorem Finite.k (b : Fin 2) (h : Fin 4) (t : Fin 8192) (d : Fin 128) : IsReal (A.k b h t d) :=
  (isReal_rot (fun _ => H.u b t _) (H.angle b t) d).mul isReal_scale

theorem Finite.v (b : Fin 2) (h : Fin 4) (t : Fin 8192) (e : Fin 256) : IsReal (A.v b h t e) := H.u b t _

theorem Finite.qR_eq (b : Fin 2) (h : Fin 4) (t : Fin 8192) (s : ℕ) (hs : t.val = s) (d : Fin 128) :
    (A.qR b h s d : EReal) = A.q b h t d := by
  subst hs
  unfold qR
  rw [(H.q b h _ d).coe_toReal, show Fin.ofNat 8192 t.val = t from Fin.ext (Nat.mod_eq_of_lt t.isLt)]

theorem Finite.kR_eq (b : Fin 2) (h : Fin 4) (t : Fin 8192) (s : ℕ) (hs : t.val = s) (d : Fin 128) :
    (A.kR b h s d : EReal) = A.k b h t d := by
  subst hs
  unfold kR
  rw [(H.k b h _ d).coe_toReal, show Fin.ofNat 8192 t.val = t from Fin.ext (Nat.mod_eq_of_lt t.isLt)]

theorem Finite.vR_eq (b : Fin 2) (h : Fin 4) (t : Fin 8192) (s : ℕ) (hs : t.val = s) (e : Fin 256) :
    (A.vR b h s e : EReal) = A.v b h t e := by
  subst hs
  unfold vR
  rw [(H.v b h _ e).coe_toReal, show Fin.ofNat 8192 t.val = t from Fin.ext (Nat.mod_eq_of_lt t.isLt)]

end Args

end Cert.Layer
-- ==== Proof.Stores.lean ====
module

public import proofs.«01_k».proof.Proof.Model
public import Idealize.ShloMosaic.Lib.Pipeline.ValueKit

@[expose] public section

/-!
# What a grid point stores

The stores the body's run leaves in the output block and in the carried state are those of the chunk-by-chunk values:
at the first point of a sequence from the state zero, at the others from the state the point before left.
-/

open Idealize.ShloMosaic Idealize.ShloMosaic.TcCoe Idealize.ShloMosaic.Tactic
open Idealize.SL Idealize.SL.RA Idealize.SL.BI
open Cert.KernelIdeal Cert.KernelIdeal.Gen

set_option maxRecDepth 16384

noncomputable section

namespace Cert.Layer.Body

variable {F : FTy → Type} [FloatOps F] [Named F]

/-- The states a point starts from, read out of the state the point before left. -/
def heads (S : Vec F S4x128x256 .f32) (h : Fin 4) : FVec F S128x256 .f32 :=
  shapeCast S128x256 (View.ld S (Rect.unit ![h.val, 0, 0] S1x128x256.size (by revert h; decide)))
    shapeCasts_S1x128x256_S128x256

/-- At the other points of a sequence, the stores into the output block are the chunks' values. -/
theorem outPieces_B (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : ¬cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) (xs0 : Vec F S4x128x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).2.2.2.1 = (⟨x3, x4, x5, x6, x7, x8, x9, x10, x11, x12, heads xs0⟩ : Blocks F).outPieces := by
  have h : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).2.2.2.1 = (⟨arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12), heads (arg19.view.read (Elt F) (harg19.unread xs0))⟩ : Blocks F).outPieces := by
    unfold kernelRun0_B
    dsimp only
    sl_kernel_rfl
  rw [h]
  simp only [harg5.read_unread, harg6.read_unread, harg7.read_unread, harg8.read_unread, harg9.read_unread, harg10.read_unread, harg11.read_unread, harg12.read_unread, harg13.read_unread, harg14.read_unread, harg19.read_unread]

/-- At the other points of a sequence, the stores into the carried state are the chunks' values. -/
theorem statePieces_B (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : ¬cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) (xs0 : Vec F S4x128x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).2.2.2.2.1 = (⟨x3, x4, x5, x6, x7, x8, x9, x10, x11, x12, heads xs0⟩ : Blocks F).statePieces := by
  have h : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).2.2.2.2.1 = (⟨arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12), heads (arg19.view.read (Elt F) (harg19.unread xs0))⟩ : Blocks F).statePieces := by
    unfold kernelRun0_B
    dsimp only
    sl_kernel_rfl
  rw [h]
  simp only [harg5.read_unread, harg6.read_unread, harg7.read_unread, harg8.read_unread, harg9.read_unread, harg10.read_unread, harg11.read_unread, harg12.read_unread, harg13.read_unread, harg14.read_unread, harg19.read_unread]

/-- At the first point of a sequence, the stores into the output block are the chunks' values. -/
theorem outPieces_A (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1 = (⟨x3, x4, x5, x6, x7, x8, x9, x10, x11, x12, heads k0_pay5⟩ : Blocks F).outPieces := by
  have h : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1 = (⟨arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12), heads (arg19.view.read (Elt F) (arg19.view.writes (Elt F) arg19.view.junk [⟨Rect.unit ![0, 0, 0] S4x128x256.size (by decide), k0_pay5⟩]))⟩ : Blocks F).outPieces := by
    unfold kernelRun0_A
    dsimp only
    sl_kernel_rfl
  rw [h]
  rw [View.read_writes_junk_eq_canon, View.canon_cons_unit_lit' _ _ _ (by decide)]
  simp only [harg5.read_unread, harg6.read_unread, harg7.read_unread, harg8.read_unread, harg9.read_unread, harg10.read_unread, harg11.read_unread, harg12.read_unread, harg13.read_unread, harg14.read_unread]

/-- At the first point of a sequence, the stores into the carried state are the chunks' values. -/
theorem statePieces_A (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1 = (⟨x3, x4, x5, x6, x7, x8, x9, x10, x11, x12, heads k0_pay5⟩ : Blocks F).statePieces ++ [⟨Rect.unit ![0, 0, 0] S4x128x256.size (by decide), k0_pay5⟩] := by
  have h : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1 = (⟨arg5.view.read (Elt F) (harg5.unread x3), arg6.view.read (Elt F) (harg6.unread x4), arg7.view.read (Elt F) (harg7.unread x5), arg8.view.read (Elt F) (harg8.unread x6), arg9.view.read (Elt F) (harg9.unread x7), arg10.view.read (Elt F) (harg10.unread x8), arg11.view.read (Elt F) (harg11.unread x9), arg12.view.read (Elt F) (harg12.unread x10), arg13.view.read (Elt F) (harg13.unread x11), arg14.view.read (Elt F) (harg14.unread x12), heads (arg19.view.read (Elt F) (arg19.view.writes (Elt F) arg19.view.junk [⟨Rect.unit ![0, 0, 0] S4x128x256.size (by decide), k0_pay5⟩]))⟩ : Blocks F).statePieces ++ [⟨Rect.unit ![0, 0, 0] S4x128x256.size (by decide), k0_pay5⟩] := by
    unfold kernelRun0_A
    dsimp only
    sl_kernel_rfl
  rw [h]
  rw [View.read_writes_junk_eq_canon, View.canon_cons_unit_lit' _ _ _ (by decide)]
  simp only [harg5.read_unread, harg6.read_unread, harg7.read_unread, harg8.read_unread, harg9.read_unread, harg10.read_unread, harg11.read_unread, harg12.read_unread, harg13.read_unread, harg14.read_unread]

/-- Weight 0's block is stored cast, whole (first point of a sequence). -/
theorem castPieces0_A (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1 = [⟨Rect.unit ![0, 0] S64x3072.size (by decide), k0_pay2 (View.ld x0 (Rect.unit ![0, 0] S64x3072.size (by decide)))⟩] := by
  have h : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1 = [⟨Rect.unit ![0, 0] S64x3072.size (by decide), k0_pay2 (View.ld (arg2.view.read (Elt F) (harg2.unread x0)) (Rect.unit ![0, 0] S64x3072.size (by decide)))⟩] := by
    unfold kernelRun0_A
    dsimp only
    sl_kernel_rfl
  rw [h, harg2.read_unread]

/-- Weight 1's block is stored cast, whole (first point of a sequence). -/
theorem castPieces1_A (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1 = [⟨Rect.unit ![0, 0] S96x1024.size (by decide), k0_pay3 (View.ld x1 (Rect.unit ![0, 0] S96x1024.size (by decide)))⟩] := by
  have h : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1 = [⟨Rect.unit ![0, 0] S96x1024.size (by decide), k0_pay3 (View.ld (arg3.view.read (Elt F) (harg3.unread x1)) (Rect.unit ![0, 0] S96x1024.size (by decide)))⟩] := by
    unfold kernelRun0_A
    dsimp only
    sl_kernel_rfl
  rw [h, harg3.read_unread]

/-- Weight 2's block is stored cast, whole (first point of a sequence). -/
theorem castPieces2_A (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1 = [⟨Rect.unit ![0, 0] S64x2048.size (by decide), k0_pay4 (View.ld x2 (Rect.unit ![0, 0] S64x2048.size (by decide)))⟩] := by
  have h : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1 = [⟨Rect.unit ![0, 0] S64x2048.size (by decide), k0_pay4 (View.ld (arg4.view.read (Elt F) (harg4.unread x2)) (Rect.unit ![0, 0] S64x2048.size (by decide)))⟩] := by
    unfold kernelRun0_A
    dsimp only
    sl_kernel_rfl
  rw [h, harg4.read_unread]

/-- Weight 0's block is stored cast, whole (other points). -/
theorem castPieces0_B (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : ¬cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) (xs0 : Vec F S4x128x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).1 = [⟨Rect.unit ![0, 0] S64x3072.size (by decide), k0_pay2 (View.ld x0 (Rect.unit ![0, 0] S64x3072.size (by decide)))⟩] := by
  have h : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).1 = [⟨Rect.unit ![0, 0] S64x3072.size (by decide), k0_pay2 (View.ld (arg2.view.read (Elt F) (harg2.unread x0)) (Rect.unit ![0, 0] S64x3072.size (by decide)))⟩] := by
    unfold kernelRun0_B
    dsimp only
    sl_kernel_rfl
  rw [h, harg2.read_unread]

/-- Weight 1's block is stored cast, whole (other points). -/
theorem castPieces1_B (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : ¬cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) (xs0 : Vec F S4x128x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).2.1 = [⟨Rect.unit ![0, 0] S96x1024.size (by decide), k0_pay3 (View.ld x1 (Rect.unit ![0, 0] S96x1024.size (by decide)))⟩] := by
  have h : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).2.1 = [⟨Rect.unit ![0, 0] S96x1024.size (by decide), k0_pay3 (View.ld (arg3.view.read (Elt F) (harg3.unread x1)) (Rect.unit ![0, 0] S96x1024.size (by decide)))⟩] := by
    unfold kernelRun0_B
    dsimp only
    sl_kernel_rfl
  rw [h, harg3.read_unread]

/-- Weight 2's block is stored cast, whole (other points). -/
theorem castPieces2_B (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : ¬cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) (xs0 : Vec F S4x128x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).2.2.1 = [⟨Rect.unit ![0, 0] S64x2048.size (by decide), k0_pay4 (View.ld x2 (Rect.unit ![0, 0] S64x2048.size (by decide)))⟩] := by
  have h : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0).2.2.1 = [⟨Rect.unit ![0, 0] S64x2048.size (by decide), k0_pay4 (View.ld (arg4.view.read (Elt F) (harg4.unread x2)) (Rect.unit ![0, 0] S64x2048.size (by decide)))⟩] := by
    unfold kernelRun0_B
    dsimp only
    sl_kernel_rfl
  rw [h, harg4.read_unread]

/-- The output block after the first point of a sequence. -/
theorem out_A (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = View.canon (⟨x3, x4, x5, x6, x7, x8, x9, x10, x11, x12, heads k0_pay5⟩ : Blocks F).outPieces := by
  unfold out0_A_16
  rw [View.read_writes_junk_eq_canon]
  exact congrArg View.canon (outPieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)

/-- The carried state after the first point of a sequence. -/
theorem state_A (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = View.canon ((⟨x3, x4, x5, x6, x7, x8, x9, x10, x11, x12, heads k0_pay5⟩ : Blocks F).statePieces ++ [⟨Rect.unit ![0, 0, 0] S4x128x256.size (by decide), k0_pay5⟩]) := by
  unfold sout0_A_0
  rw [View.read_writes_junk_eq_canon]
  exact congrArg View.canon (statePieces_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)

/-- Weight 0's block after the first point of a sequence. -/
theorem cast0_A (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = k0_pay2 x0 := by
  unfold out0_A_13
  rw [View.read_writes_junk_eq_canon]
  refine (congrArg View.canon (castPieces0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)).trans ?_
  rw [View.canon_cons_unit_lit' _ _ _ (by decide)]
  exact congrArg k0_pay2 (View.ld_unit_lit' _ _ (by decide))

/-- Weight 1's block after the first point of a sequence. -/
theorem cast1_A (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = k0_pay3 x1 := by
  unfold out0_A_14
  rw [View.read_writes_junk_eq_canon]
  refine (congrArg View.canon (castPieces1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)).trans ?_
  rw [View.canon_cons_unit_lit' _ _ _ (by decide)]
  exact congrArg k0_pay3 (View.ld_unit_lit' _ _ (by decide))

/-- Weight 2's block after the first point of a sequence. -/
theorem cast2_A (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = k0_pay4 x2 := by
  unfold out0_A_15
  rw [View.read_writes_junk_eq_canon]
  refine (congrArg View.canon (castPieces2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12)).trans ?_
  rw [View.canon_cons_unit_lit' _ _ _ (by decide)]
  exact congrArg k0_pay4 (View.ld_unit_lit' _ _ (by decide))

/-- The output block after another point of a sequence. -/
theorem out_B (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : ¬cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) (xs0 : Vec F S4x128x256 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 = View.canon (⟨x3, x4, x5, x6, x7, x8, x9, x10, x11, x12, heads xs0⟩ : Blocks F).outPieces := by
  unfold out0_B_16
  rw [View.read_writes_junk_eq_canon]
  exact congrArg View.canon (outPieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0)

/-- The carried state after another point of a sequence. -/
theorem state_B (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : ¬cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) (xs0 : Vec F S4x128x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 = View.canon ((⟨x3, x4, x5, x6, x7, x8, x9, x10, x11, x12, heads xs0⟩ : Blocks F).statePieces) := by
  unfold sout0_B_0
  rw [View.read_writes_junk_eq_canon]
  exact congrArg View.canon (statePieces_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0)

/-- Weight 0's block after another point of a sequence. -/
theorem cast0_B (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : ¬cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) (xs0 : Vec F S4x128x256 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 = k0_pay2 x0 := by
  unfold out0_B_13
  rw [View.read_writes_junk_eq_canon]
  refine (congrArg View.canon (castPieces0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0)).trans ?_
  rw [View.canon_cons_unit_lit' _ _ _ (by decide)]
  exact congrArg k0_pay2 (View.ld_unit_lit' _ _ (by decide))

/-- Weight 1's block after another point of a sequence. -/
theorem cast1_B (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : ¬cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) (xs0 : Vec F S4x128x256 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 = k0_pay3 x1 := by
  unfold out0_B_14
  rw [View.read_writes_junk_eq_canon]
  refine (congrArg View.canon (castPieces1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0)).trans ?_
  rw [View.canon_cons_unit_lit' _ _ _ (by decide)]
  exact congrArg k0_pay3 (View.ld_unit_lit' _ _ (by decide))

/-- Weight 2's block after another point of a sequence. -/
theorem cast2_B (c : Dev nD) (i : grid0.Coords) (arg2 : Memref sig .tc .vmem S64x3072 .f32) (harg2 : arg2.IsWhole) (arg3 : Memref sig .tc .vmem S96x1024 .f32) (harg3 : arg3.IsWhole) (arg4 : Memref sig .tc .vmem S64x2048 .f32) (harg4 : arg4.IsWhole) (arg5 : Memref sig .tc .vmem S1x1024x1024 .f32) (harg5 : arg5.IsWhole) (arg6 : Memref sig .tc .vmem S1x1x1024 .f32) (harg6 : arg6.IsWhole) (arg7 : Memref sig .tc .vmem S64x1 .f32) (harg7 : arg7.IsWhole) (arg8 : Memref sig .tc .vmem S1x1x1024 .f32) (harg8 : arg8.IsWhole) (arg9 : Memref sig .tc .vmem S1x1024x4096 .bf16) (harg9 : arg9.IsWhole) (arg10 : Memref sig .tc .vmem S1x1x256 .f32) (harg10 : arg10.IsWhole) (arg11 : Memref sig .tc .vmem S1x1536x1024 .bf16) (harg11 : arg11.IsWhole) (arg12 : Memref sig .tc .vmem S1x1x512x256 .bf16) (harg12 : arg12.IsWhole) (arg13 : Memref sig .tc .vmem S1x1x256x512 .bf16) (harg13 : arg13.IsWhole) (arg14 : Memref sig .tc .vmem S1x1x128 .f32) (harg14 : arg14.IsWhole) (arg15 : Memref sig .tc .vmem S64x3072 .bf16) (harg15 : arg15.IsWhole) (arg16 : Memref sig .tc .vmem S96x1024 .bf16) (harg16 : arg16.IsWhole) (arg17 : Memref sig .tc .vmem S64x2048 .bf16) (harg17 : arg17.IsWhole) (arg18 : Memref sig .tc .vmem S1x1024x1024 .f32) (harg18 : arg18.IsWhole) (arg19 : Memref sig .tc .vmem S4x128x256 .f32) (harg19 : arg19.IsWhole) (hc0 : ¬cond0_0 i)
    (x0 : Vec F S64x3072 .f32) (x1 : Vec F S96x1024 .f32) (x2 : Vec F S64x2048 .f32) (x3 : Vec F S1x1024x1024 .f32) (x4 : Vec F S1x1x1024 .f32) (x5 : Vec F S64x1 .f32) (x6 : Vec F S1x1x1024 .f32) (x7 : Vec F S1x1024x4096 .bf16) (x8 : Vec F S1x1x256 .f32) (x9 : Vec F S1x1536x1024 .bf16) (x10 : Vec F S1x1x512x256 .bf16) (x11 : Vec F S1x1x256x512 .bf16) (x12 : Vec F S1x1x128 .f32) (xs0 : Vec F S4x128x256 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0 = k0_pay4 x2 := by
  unfold out0_B_15
  rw [View.read_writes_junk_eq_canon]
  refine (congrArg View.canon (castPieces2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xs0)).trans ?_
  rw [View.canon_cons_unit_lit' _ _ _ (by decide)]
  exact congrArg k0_pay4 (View.ld_unit_lit' _ _ (by decide))

end Cert.Layer.Body
-- ==== Proof.ReadB.lean ====
module

public import proofs.«01_k».proof.Proof.ReadA
public import proofs.«01_k».proof.Proof.Finite
public import proofs.«01_k».proof.Proof.Stores

@[expose] public section

/-!
# What a grid point computes

Over a block of 1024 rows of one sequence, the body's values are the layer's: its heads' queries, keys and values, the
state it carries from chunk to chunk, and the output.
-/

open Idealize.ShloMosaic Idealize.ShloMosaic.TcCoe
open Cert.KernelIdeal Cert.KernelIdeal.Gen

set_option maxRecDepth 16384

noncomputable section

namespace Cert.Layer.Body

/-- The token of row `r` of chunk `c` of block `n`. -/
def tok (n : Fin 8) (c : Fin 4) (r : Fin 256) : Fin 8192 := ⟨1024 * n.val + (256 * c.val + r.val), by omega⟩

/-- The blocks `B` hold rows `1024 n …` of sequence `b` of the arguments `A`. -/
structure Blocks.Holds (B : Blocks Ideal) (A : Args) (b : Fin 2) (n : Fin 8) : Prop where
  x : ∀ (r : Fin 1024) (d : Fin 1024), B.x (ix3 0 r d) = A.x b ⟨1024 * n.val + r.val, by omega⟩ d
  pos : ∀ r : Fin 1024, B.pos (ix3 0 0 r) = A.pos b ⟨1024 * n.val + r.val, by omega⟩
  invf : ∀ i : Fin 64, B.invf (ix2 i 0) = A.invf i
  gn : ∀ d : Fin 1024, B.gn (ix3 0 0 d) = A.gn d
  win : ∀ (d : Fin 1024) (j : Fin 4096), B.win (ix3 0 d j) = A.win d j
  gret : ∀ e : Fin 256, B.gret (ix3 0 0 e) = A.gret e
  wout : ∀ (j : Fin 1536) (d : Fin 1024), B.wout (ix3 0 j d) = A.wout j d
  kt : ∀ (d : Fin 512) (m : Fin 256), B.kt (ix4 0 0 d m) = A.kt b d m
  mv : ∀ (m : Fin 256) (d : Fin 512), B.mv (ix4 0 0 m d) = A.mv b m d
  gq : ∀ d : Fin 128, B.gq (ix3 0 0 d) = A.gq d

/-- The rotary embedding with the sign kept in the sine table. -/
theorem rotary_rot (f : Fin 128 → EReal) (a : Fin 64 → EReal) (d : Fin 128) :
    f d * Ideal.cos (a ⟨d.val % 64, by omega⟩) + f ⟨(d.val + 128 - 64) % 128, by omega⟩
      * (if d.val < 64 then -Ideal.sin (a ⟨d.val % 64, by omega⟩) else Ideal.sin (a ⟨d.val % 64, by omega⟩)) = rot f a d := by
  unfold rot
  by_cases hd : d.val < 64
  · have e : (⟨d.val % 64, by omega⟩ : Fin 64) = ⟨d.val, hd⟩ := Fin.ext (by simp only []; omega)
    have e2 : (⟨(d.val + 128 - 64) % 128, by omega⟩ : Fin 128) = ⟨d.val + 64, by omega⟩ := Fin.ext (by simp only []; omega)
    rw [if_pos hd, dif_pos hd, e, e2, mul_neg, sub_eq_add_neg]
  · have e : (⟨d.val % 64, by omega⟩ : Fin 64) = ⟨d.val - 64, by omega⟩ := Fin.ext (by simp only []; omega)
    have e2 : (⟨(d.val + 128 - 64) % 128, by omega⟩ : Fin 128) = ⟨d.val - 64, by omega⟩ := Fin.ext (by simp only []; omega)
    rw [if_neg hd, dif_neg hd, e, e2, add_comm]

namespace Blocks
variable {B : Blocks Ideal} {A : Args} {b : Fin 2} {n : Fin 8} (H : B.Holds A b n)
include H

theorem Holds.piece (c : Fin 4) (p : Fin 8) (r : Fin 256) (j : Fin 512) (i : Fin 4096) (hi : i.val = 512 * p.val + j.val) :
    B.piece c p (ix2 r j) = A.u b (tok n c r) i := by
  rw [piece_apply, show (⟨512 * p.val + j.val, _⟩ : Fin 4096) = i from Fin.ext hi.symm]
  unfold Args.u inProj rms
  simp only [H.x, H.gn, H.win]
  rfl

theorem Holds.cosT (r : Fin 1024) (d : Fin 128) :
    B.cosT (ix2 r d) = Ideal.cos (A.angle b ⟨1024 * n.val + r.val, by omega⟩ ⟨d.val % 64, by omega⟩) := by
  unfold Blocks.cosT
  rw [View.ld_unit_lit' _ _ (by decide), View.ld_unit_lit' _ _ (by decide), cosT_apply, H.pos, H.invf]
  rfl

theorem Holds.sinT (r : Fin 1024) (d : Fin 128) :
    B.sinT (ix2 r d) = if d.val < 64 then -Ideal.sin (A.angle b ⟨1024 * n.val + r.val, by omega⟩ ⟨d.val % 64, by omega⟩)
      else Ideal.sin (A.angle b ⟨1024 * n.val + r.val, by omega⟩ ⟨d.val % 64, by omega⟩) := by
  unfold Blocks.sinT
  rw [View.ld_unit_lit' _ _ (by decide), View.ld_unit_lit' _ _ (by decide), sinT_apply, H.pos, H.invf]
  rfl

/-- A head of a slab, turned by its token's angles. -/
theorem Holds.rotary (c : Fin 4) (p : Fin 8) (h : Fin 4) (r : Fin 256) (d : Fin 128) :
    Body.rotary (lanes128 (B.piece c p) h) (rows B.cosT c) (rows B.sinT c) (ix2 r d)
      = rot (fun d => A.u b (tok n c r) ⟨512 * p.val + (128 * h.val + d.val), by omega⟩) (A.angle b (tok n c r)) d := by
  rw [rotary_apply, rows_apply, rows_apply, lanes128_apply, lanes128_apply, H.cosT, H.sinT,
    H.piece c p r _ ⟨512 * p.val + (128 * h.val + d.val), by omega⟩ rfl,
    H.piece c p r _ ⟨512 * p.val + (128 * h.val + (d.val + 128 - 64) % 128), by omega⟩ rfl, ← rotary_rot]
  rfl

theorem Holds.qHead (c h : Fin 4) (r : Fin 256) (d : Fin 128) : B.qHead c h (ix2 r d) = A.q b h (tok n c r) d := by
  refine (H.rotary c 0 h r d).trans ?_
  unfold Args.q
  congr 1; funext d; congr 1; exact Fin.ext (by simp; omega)

theorem Holds.kHead (c h : Fin 4) (r : Fin 256) (d : Fin 128) : B.kHead c h (ix2 r d) = A.k b h (tok n c r) d := by
  refine (congrArg (· * Ideal.ofBits .f32 0x3DB504F3#32) (H.rotary c 1 h r d)).trans ?_
  unfold Args.k
  congr 2; funext d; congr 1; exact Fin.ext (by simp; omega)

theorem Holds.vHead (c h : Fin 4) (r e : Fin 256) : B.vHead c h (ix2 r e) = A.v b h (tok n c r) e := by
  unfold Args.v
  refine (lanes256_apply _ _ r e).trans (H.piece _ _ _ _ _ ?_)
  simp only []; omega

/-- The state after a chunk. -/
theorem Holds.after (F : A.Finite) (c h : Fin 4) (S : FVec Ideal S128x256 .f32)
    (hS : ∀ d e, S (ix2 d e) = A.st b h (1024 * n.val + 256 * c.val) d e) (d : Fin 128) (e : Fin 256) :
    B.after c h S (ix2 d e) = A.st b h (1024 * n.val + 256 * (c.val + 1)) d e := by
  unfold Blocks.after
  rw [stateOf_apply, gammaChunk_eq, hS]
  have e1 : 1024 * n.val + 256 * (c.val + 1) = 1024 * n.val + 256 * c.val + 256 := by ring
  unfold Args.st
  rw [e1, ← chunk_state (gamma h) (A.kR b h) (A.vR b h) (1024 * n.val + 256 * c.val) 256]
  refine congrArg₂ (· + ·) rfl (Finset.sum_congr rfl fun s _ => ?_)
  rw [zeta_apply, H.kHead, H.vHead, F.kR_eq b h (tok n c s) _ (by simp [tok]; omega) d,
    F.vR_eq b h (tok n c s) _ (by simp [tok]; omega) e]

/-- The carried state before a chunk, and after the last. -/
theorem Holds.carried (F : A.Finite) (h : Fin 4)
    (hS : ∀ d e, B.s0 h (ix2 d e) = A.st b h (1024 * n.val) d e) (c : Fin 5) (d : Fin 128) (e : Fin 256) :
    B.carried c h (ix2 d e) = A.st b h (1024 * n.val + 256 * c.val) d e := by
  have h1 := H.after F 0 h (B.s0 h) hS
  have h2 := H.after F 1 h _ h1
  have h3 := H.after F 2 h _ h2
  have h4 := H.after F 3 h _ h3
  match c with
  | 0 => exact hS d e
  | 1 => exact h1 d e
  | 2 => exact h2 d e
  | 3 => exact h3 d e
  | 4 => exact h4 d e

/-- A head's retention over a chunk. -/
theorem Holds.retOf (F : A.Finite) (c h : Fin 4)
    (S : FVec Ideal S128x256 .f32) (hS : ∀ d e, S (ix2 d e) = A.st b h (1024 * n.val + 256 * c.val) d e) (r e : Fin 256) :
    Body.retOf h (B.qHead c h) (B.kHead c h) (B.vHead c h) S (ix2 r e) = A.ret b h (tok n c r) e := by
  rw [retOf_apply]
  unfold Args.ret
  rw [show (tok n c r).val = 1024 * n.val + 256 * c.val + r.val by simp [tok]; omega, ← chunk_out _ _ _ _ _ 256 r e]
  congr 1
  · refine Finset.sum_congr rfl fun s _ => ?_
    rw [decay_apply, H.vHead, F.vR_eq b h (tok n c s) _ (by simp [tok]; omega) e]
    congr 2
    refine Finset.sum_congr rfl fun d _ => ?_
    rw [H.qHead, H.kHead, F.qR_eq b h (tok n c r) _ (by simp [tok]; omega) d,
      F.kR_eq b h (tok n c s) _ (by simp [tok]; omega) d]
  · rw [xi_apply]
    congr 1
    refine Finset.sum_congr rfl fun d _ => ?_
    rw [H.qHead, hS, F.qR_eq b h (tok n c r) _ (by simp [tok]; omega) d]
    rfl

/-- A head's gated retention. -/
theorem Holds.retGated (F : A.Finite) (c h : Fin 4)
    (hS : ∀ d e, B.s0 h (ix2 d e) = A.st b h (1024 * n.val) d e) (r e : Fin 256) :
    B.retGated c h (ix2 r e) = A.retGated b h (tok n c r) e := by
  unfold Blocks.retGated
  rw [View.ld_unit_lit' _ _ (by decide), retGatedOf_apply]
  unfold Args.retGated
  congr 1
  · congr 1
    · funext e
      exact H.retOf F c h _ (H.carried F h hS c.castSucc) r e
    · funext e; exact H.gret e
  · congr 1
    refine (lanes256_apply _ _ r e).trans (H.piece _ _ _ _ _ ?_)
    simp only []; omega

/-- A memory head's gated attention. -/
theorem Holds.memGated (c h : Fin 4) (r : Fin 256) (e : Fin 128) :
    B.memGated c h (ix2 r e) = A.memGated b h (tok n c r) e := by
  unfold Blocks.memGated
  rw [View.ld_unit_lit' _ _ (by decide)]
  have ik : ∀ (h : Fin 4) (a : Fin 4), ![0, 0, 128 * h.val, 0] a + S1x1x128x256.size a ≤ S1x1x512x256.size a := by decide
  have iv : ∀ (h : Fin 4) (a : Fin 4), ![0, 0, 0, 128 * h.val] a + S1x1x256x128.size a ≤ S1x1x256x512.size a := by decide
  have hk : ∀ (d : Fin 128) (m : Fin 256), View.ld B.kt (Rect.unit ![0, 0, 128 * h.val, 0] S1x1x128x256.size
      (ik h)) (ix4 0 0 d m) = A.kt b ⟨h.val * 128 + d.val, by omega⟩ m := fun d m =>
    (View.ld_unit_apply_of _ _ _ _ _ (ix4 0 0 ⟨h.val * 128 + d.val, by omega⟩ m)
      (by intro a; fin_cases a <;> simp <;> omega)).trans (H.kt _ _)
  have hv : ∀ (m : Fin 256) (d : Fin 128), View.ld B.mv (Rect.unit ![0, 0, 0, 128 * h.val] S1x1x256x128.size
      (iv h)) (ix4 0 0 m d) = A.mv b m ⟨h.val * 128 + d.val, by omega⟩ := fun m d =>
    (View.ld_unit_apply_of _ _ _ _ _ (ix4 0 0 m ⟨h.val * 128 + d.val, by omega⟩)
      (by intro a; fin_cases a <;> simp <;> omega)).trans (H.mv _ _)
  have hf : (fun d : Fin 128 => lanes128 (B.piece c 6) h (ix2 r d))
      = fun d : Fin 128 => A.u b (tok n c r) ⟨3072 + h.val * 128 + d.val, by omega⟩ := funext fun d =>
    (lanes128_apply _ _ r d).trans (H.piece _ _ _ _ _ (by simp; omega))
  have hl : ∀ m : Fin 256, logitsOf (lanes128 (B.piece c 6) h) B.gq (View.ld B.kt (Rect.unit ![0, 0, 128 * h.val, 0]
      S1x1x128x256.size (ik h))) (ix2 r m)
      = memLogit (fun d => A.u b (tok n c r) ⟨3072 + h.val * 128 + d.val, by omega⟩) A.gq
        (fun d m => A.kt b ⟨h.val * 128 + d.val, by omega⟩ m) m := fun m => by
    rw [logitsOf_apply, hf, show (fun d => B.gq (ix3 0 0 d)) = A.gq from funext H.gq]
    congr 1; funext d m; exact hk d m
  rw [memGatedOf_apply]
  unfold Args.memGated Args.memo memory memExp
  congr 1
  · simp only [expsOf_apply, hl, hv]
  · congr 1
    exact (lanes128_apply _ _ r e).trans (H.piece _ _ _ _ _ (by simp; omega))

end Blocks

end Cert.Layer.Body
-- ==== Proof.ReadC.lean ====
module

public import proofs.«01_k».proof.Proof.ReadB

@[expose] public section

/-!
# A grid point's output block and the state it leaves
-/

open Idealize.ShloMosaic Idealize.ShloMosaic.TcCoe
open Cert.KernelIdeal Cert.KernelIdeal.Gen

set_option maxRecDepth 16384

noncomputable section

namespace Cert.Layer.Body

/-- Eight pieces side by side, read at a column. -/
theorem beside_apply (p0 p1 p2 p3 : FVec Ideal S256x256 .bf16) (m0 m1 m2 m3 : FVec Ideal S256x128 .bf16) (r : Fin 256) (j : Fin 1536) :
    concatenate S256x1536 1 [⟨S256x256, p0⟩, ⟨S256x256, p1⟩, ⟨S256x256, p2⟩, ⟨S256x256, p3⟩, ⟨S256x128, m0⟩, ⟨S256x128, m1⟩,
      ⟨S256x128, m2⟩, ⟨S256x128, m3⟩]
      concatenates_S256x256_S256x256_S256x256_S256x256_S256x128_S256x128_S256x128_S256x128_S256x1536_d1 (ix2 r j)
      = if hj : j.val < 1024 then (![p0, p1, p2, p3] (⟨j.val / 256, by omega⟩ : Fin 4)) (ix2 r ⟨j.val % 256, by omega⟩)
        else (![m0, m1, m2, m3] (⟨(j.val - 1024) / 128, by omega⟩ : Fin 4)) (ix2 r ⟨(j.val - 1024) % 128, by omega⟩) := by
  pointwise
  by_cases h1 : j.val < 1024
  · rw [dif_pos h1]
    obtain ⟨q, hq⟩ : ∃ q : Fin 4, q = ⟨j.val / 256, by omega⟩ := ⟨_, rfl⟩
    have hv : q.val = j.val / 256 := by rw [hq]
    rw [← hq]
    fin_cases q <;> simp at hv <;> (repeat rw [dif_neg (by omega)]) <;> (try rw [dif_pos (by omega)]) <;>
      (simp; congr 2; apply Fin.ext; simp; omega)
  · rw [dif_neg h1]
    obtain ⟨q, hq⟩ : ∃ q : Fin 4, q = ⟨(j.val - 1024) / 128, by omega⟩ := ⟨_, rfl⟩
    have hv : q.val = (j.val - 1024) / 128 := by rw [hq]
    rw [← hq]
    fin_cases q <;> simp at hv <;> (repeat rw [dif_neg (by omega)]) <;> (try rw [dif_pos (by omega)]) <;>
      (simp; congr 2; apply Fin.ext; simp; omega)

namespace Blocks
variable {B : Blocks Ideal} {A : Args} {b : Fin 2} {n : Fin 8} (H : B.Holds A b n)
include H

/-- The mixers side by side. -/
theorem Holds.mixed (F : A.Finite) (hS : ∀ h d e, B.s0 h (ix2 d e) = A.st b h (1024 * n.val) d e) (c : Fin 4) (r : Fin 256)
    (j : Fin 1536) : B.mixed c (ix2 r j) = A.mixed b (tok n c r) j := by
  unfold Blocks.mixed Args.mixed
  rw [beside_apply]
  by_cases hj : j.val < 1024
  · rw [dif_pos hj, dif_pos hj, ← H.retGated F c _ (hS _)]
    generalize (⟨j.val / 256, _⟩ : Fin 4) = q
    fin_cases q <;> rfl
  · rw [dif_neg hj, dif_neg hj, ← H.memGated c]
    generalize (⟨(j.val - 1024) / 128, _⟩ : Fin 4) = q
    fin_cases q <;> rfl

/-- A slab of the output. -/
theorem Holds.outPiece (F : A.Finite) (hS : ∀ h d e, B.s0 h (ix2 d e) = A.st b h (1024 * n.val) d e) (c j : Fin 4)
    (r : Fin 256) (d : Fin 256) (i : Fin 1024) (hi : i.val = 256 * j.val + d.val) :
    B.outPiece c j (ix3 0 r d) = A.y b (tok n c r) i := by
  unfold Blocks.outPiece
  refine (slab_out _ r d).trans ?_
  have hs : ∀ j : Fin 4, S256x1024.Slices ![0, 256 * j.val] S256x256 := by decide
  have hx : extractStridedSlice S256x256 ![0, 256 * j.val] (B.chunkX c) (hs j) (ix2 r d)
      = A.x b (tok n c r) i := by
    have e : extractStridedSlice S256x256 ![0, 256 * j.val] (B.chunkX c) (hs j) (ix2 r d)
        = B.chunkX c (ix2 r i) := by
      generalize B.chunkX c = X
      pointwise
      congr 2
      exact Fin.ext hi.symm
    rw [e, chunkX_apply, H.x]; rfl
  unfold Args.y
  refine congrArg₂ (· + ·) hx ?_
  generalize hW : shapeCast S1536x256 (View.ld B.wout _) _ = W
  generalize hM : B.mixed c = M
  pointwise
  refine Finset.sum_congr rfl fun k _ => ?_
  rw [← hM, H.mixed F hS, ← hW]
  congr 1
  exact (slab_wout _ k d).trans ((View.ld_unit_apply_of _ _ _ _ _ (ix3 0 k i) (by intro a; fin_cases a <;> simp [hi])).trans
    (H.wout k i))

/-- A point's output block is the layer's output on its rows. -/
theorem Holds.outPieces (F : A.Finite) (hS : ∀ h d e, B.s0 h (ix2 d e) = A.st b h (1024 * n.val) d e) (r d : Fin 1024) :
    View.canon B.outPieces (ix3 0 r d) = A.y b ⟨1024 * n.val + r.val, by omega⟩ d := by
  have key : ∀ (c j : Fin 4) (y : S1x256x256.Idx), (∀ a, ((ix3 0 r d : S1x1024x1024.Idx) a : ℕ) = ![0, 256 * c.val, 256 * j.val] a + y a) →
      B.outPiece c j y = A.y b ⟨1024 * n.val + r.val, by omega⟩ d := by
    intro c j y hy
    have h1 : r.val = 256 * c.val + (y 1).val := hy 1
    have h2 : d.val = 256 * j.val + (y 2).val := hy 2
    obtain ⟨a0, a1, a2, rfl⟩ : ∃ (a0 : Fin 1) (a1 a2 : Fin 256), y = ix3 a0 a1 a2 := ⟨_, _, _, eq_ix3 y⟩
    obtain rfl : a0 = 0 := Subsingleton.elim _ _
    have h1 : r.val = 256 * c.val + a1.val := h1
    refine (H.outPiece F hS c j a1 a2 d h2).trans ?_
    congr 1
    exact Fin.ext (by simp only [tok]; omega)
  unfold Blocks.outPieces
  refine View.canon_eq_of_allAt _ _ _ (View.cover_of_tiled_head _ _ _ rfl _) ?_
  repeat' first
    | exact View.allAt_nil _ _
    | (refine View.allAt_cons_unit _ _ _ _ _ ?_ ?_)
  · exact key 3 3
  · exact key 3 2
  · exact key 3 1
  · exact key 3 0
  · exact key 2 3
  · exact key 2 2
  · exact key 2 1
  · exact key 2 0
  · exact key 1 3
  · exact key 1 2
  · exact key 1 1
  · exact key 1 0
  · exact key 0 3
  · exact key 0 2
  · exact key 0 1
  · exact key 0 0

omit H in
/-- Stores covering an index read the same whatever was stored before them. -/
theorem canon_append {S : Shape} {e : EltTy} (L T : List (View.Piece (Elt Ideal) S e)) (y : S.Idx) (hy : ∃ p ∈ L, y ∈ p.1.set) :
    View.canon (L ++ T) y = View.canon L y := by
  induction L with
  | nil => obtain ⟨p, hp, _⟩ := hy; exact absurd hp List.not_mem_nil
  | cons p L ih =>
    by_cases hm : y ∈ p.1.set
    · obtain ⟨x, rfl⟩ := p.1.exists_idx_of_mem hm
      rw [show p.1.idx x = p.1.emb x from rfl, List.cons_append]
      exact (View.canon_cons_emb p.1 p.2 (L ++ T) x).trans (View.canon_cons_emb p.1 p.2 L x).symm
    · rw [List.cons_append, View.canon_cons_of_not_mem _ _ hm, View.canon_cons_of_not_mem _ _ hm]
      obtain ⟨q, hq, hyq⟩ := hy
      rcases List.mem_cons.mp hq with rfl | hq'
      · exact absurd hyq hm
      · exact ih ⟨q, hq', hyq⟩

/-- The state a point leaves is the layer's state before the next block. -/
theorem Holds.statePieces (F : A.Finite) (hS : ∀ h d e, B.s0 h (ix2 d e) = A.st b h (1024 * n.val) d e)
    (T : List (View.Piece (Elt Ideal) S4x128x256 .f32)) (h : Fin 4) (d : Fin 128) (e : Fin 256) :
    View.canon (B.statePieces ++ T) (ix3 h d e) = A.st b h (1024 * (n.val + 1)) d e := by
  have key : ∀ (g : Fin 4) (y : S1x128x256.Idx), (∀ a, ((ix3 h d e : S4x128x256.Idx) a : ℕ) = ![g.val, 0, 0] a + y a) →
      shapeCast S1x128x256 (B.carried 4 g) shapeCasts_S128x256_S1x128x256 y = A.st b h (1024 * (n.val + 1)) d e := by
    intro g y hy
    obtain ⟨a0, a1, a2, rfl⟩ : ∃ (a0 : Fin 1) (a1 : Fin 128) (a2 : Fin 256), y = ix3 a0 a1 a2 := ⟨_, _, _, eq_ix3 y⟩
    obtain rfl : a0 = 0 := Subsingleton.elim _ _
    have hg : h.val = g.val + 0 := hy 0
    have h1 : d.val = 0 + a1.val := hy 1
    have h2 : e.val = 0 + a2.val := hy 2
    obtain rfl : h = g := Fin.ext hg
    obtain rfl : d = a1 := Fin.ext (by omega)
    obtain rfl : e = a2 := Fin.ext (by omega)
    refine (slab_toState _ d e).trans ?_
    have hk := H.carried F h (hS h) 4 d e
    rwa [show 1024 * n.val + 256 * (4 : Fin 5).val = 1024 * (n.val + 1) from by
      show 1024 * n.val + 256 * 4 = _
      omega] at hk
  have hc : ∃ p ∈ B.statePieces, (ix3 h d e : S4x128x256.Idx) ∈ p.1.set := by
    unfold Blocks.statePieces
    exact View.cover_of_tiled_head _ _ _ rfl _
  rw [canon_append _ _ _ hc]
  refine View.canon_eq_of_allAt _ _ _ hc ?_
  unfold Blocks.statePieces
  repeat' first
    | exact View.allAt_nil _ _
    | (refine View.allAt_cons_unit _ _ _ _ _ ?_ ?_)
  · exact key 3
  · exact key 2
  · exact key 1
  · exact key 0

end Blocks

/-- A head's state, read out of the carried state. -/
theorem heads_apply (S : Vec Ideal S4x128x256 .f32) (h : Fin 4) (d : Fin 128) (e : Fin 256) :
    heads S h (ix2 d e) = S (ix3 h d e) :=
  (slab_state _ d e).trans (View.ld_unit_apply_of _ _ _ _ _ (ix3 h d e) (by intro a; fin_cases a <;> simp))

/-- The zero state. -/
theorem heads_zero (h : Fin 4) (d : Fin 128) (e : Fin 256) : heads (F := Ideal) (k0_pay5 (F := Ideal)) h (ix2 d e) = 0 := by
  rw [heads_apply]
  pointwise [k0_pay5]

end Cert.Layer.Body
-- ==== Proof.Entry.lean ====
module

public import proofs.«01_k».proof.Proof.Finite
public import Idealize.ShloMosaic.Lib.Pointwise

@[expose] public section

/-!
# The layer's arguments, out of the programs' arrays
-/

open Idealize.ShloMosaic

noncomputable section

namespace Cert.Layer

/-- The rotary frequencies `10000^(-2i/128)`. -/
def invFreq (i : Fin 64) : EReal :=
  Ideal.pow (Ideal.ofBits .f32 0x461C4000#32)
    (Ideal.div (-(FloatOps.sitofp (F := Ideal) .f32 (BitVec.ofNat 32 i.val)) * Ideal.ofBits .f32 0x40000000#32) (Ideal.ofBits .f32 0x43000000#32))

/-- The layer's arguments, read out of the programs' arrays; of the memory, the first layer's. -/
def argsOf (x : FVec Ideal ⟨3, ![2, 8192, 1024]⟩ .f32) (pos : (⟨2, ![2, 8192]⟩ : Shape).Idx → BitVec 32) (gn : FVec Ideal ⟨2, ![1, 1024]⟩ .f32)
    (win : FVec Ideal ⟨3, ![1, 1024, 4096]⟩ .bf16) (gret : FVec Ideal ⟨2, ![1, 256]⟩ .f32) (wout : FVec Ideal ⟨3, ![1, 1536, 1024]⟩ .bf16)
    (kt : FVec Ideal ⟨4, ![2, 2, 512, 256]⟩ .bf16) (mv : FVec Ideal ⟨4, ![2, 2, 256, 512]⟩ .bf16) (gq : FVec Ideal ⟨2, ![2, 128]⟩ .f32) : Args where
  x b t d := x (ix3 b t d)
  pos b t := FloatOps.sitofp (F := Ideal) .f32 (pos (ix2 b t))
  gn d := gn (ix2 0 d)
  win d j := win (ix3 0 d j)
  gret e := gret (ix2 0 e)
  wout j d := wout (ix3 0 j d)
  kt b d m := kt (ix4 0 b d m)
  mv b m d := mv (ix4 0 b m d)
  gq d := gq (ix2 0 d)
  invf := invFreq

end Cert.Layer
-- ==== Proof.Points.lean ====
module

public import proofs.«01_k».proof.Proof.ReadC
public import proofs.«01_k».proof.Proof.Stores
public import proofs.«01_k».proof.Proof.Entry
public import proofs.«01_k».proof.Proof.Gen.KernelIdeal.Value
public import Idealize.ShloMosaic.Lib.Claim
public import Idealize.ShloMosaic.Lib.StableHlo.ReadAt

@[expose] public section

/-!
# The kernel's grid points: its blocks, the carried state, its results
-/

open Idealize.ShloMosaic Idealize.ShloMosaic.TcCoe
open Cert.KernelIdeal Cert.KernelIdeal.Gen Cert.KernelIdeal.Value

set_option maxRecDepth 16384

noncomputable section

namespace Cert.Layer.Body

variable (m : (ℓ : Loc nD τ sig) → Buf (Elt Ideal) ℓ) (c : Dev nD)

/-- The layer's arguments, as the kernel finds them. -/
def args : Args :=
  argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8))

/-- A point's blocks over the states it starts from. -/
def blocks (t : Fin cfg0.N) (s0 : Fin 4 → FVec Ideal S128x256 .f32) : Blocks Ideal :=
  ⟨iblk m c 3 t, iblk m c 4 t, iblk m c 5 t, iblk m c 6 t, iblk m c 7 t, iblk m c 8 t, iblk m c 9 t, iblk m c 10 t, iblk m c 11 t, iblk m c 12 t, s0⟩

theorem index3 : ∀ t : Fin cfg0.N, win0_3.index t = ![t.val / 8, t.val % 8, 0] := by decide +kernel
theorem index4 : ∀ t : Fin cfg0.N, win0_4.index t = ![t.val / 8, 0, t.val % 8] := by decide +kernel
theorem index10 : ∀ t : Fin cfg0.N, win0_10.index t = ![0, t.val / 8, 0, 0] := by decide +kernel
theorem index11 : ∀ t : Fin cfg0.N, win0_11.index t = ![0, t.val / 8, 0, 0] := by decide +kernel
theorem index5 : ∀ t : Fin cfg0.N, win0_5.index t = ![0, 0] := by decide +kernel
theorem index6 : ∀ t : Fin cfg0.N, win0_6.index t = ![0, 0, 0] := by decide +kernel
theorem index7 : ∀ t : Fin cfg0.N, win0_7.index t = ![0, 0, 0] := by decide +kernel
theorem index8 : ∀ t : Fin cfg0.N, win0_8.index t = ![0, 0, 0] := by decide +kernel
theorem index9 : ∀ t : Fin cfg0.N, win0_9.index t = ![0, 0, 0] := by decide +kernel
theorem index12 : ∀ t : Fin cfg0.N, win0_12.index t = ![0, 0, 0] := by decide +kernel

theorem V_v8 (i : Fin 64) : (V m c main_v8 : FVec Ideal S64x1 .f32) (ix2 i 0) = invFreq i := by
  unfold V
  after_reads_at
  rfl
theorem V_v10 (b : Fin 2) (t : Fin 8192) : (V m c main_v10 : FVec Ideal S2x1x8192 .f32) (ix3 b 0 t) = (args m c).pos b t := by
  unfold V
  after_reads_at
  rfl
theorem V_v13 (d : Fin 1024) : (V m c main_v13 : FVec Ideal S1x1x1024 .f32) (ix3 0 0 d) = (args m c).gn d := by
  unfold V
  after_reads_at
  rfl
theorem V_v14 (d : Fin 256) : (V m c main_v14 : FVec Ideal S1x1x256 .f32) (ix3 0 0 d) = (args m c).gret d := by
  unfold V
  after_reads_at
  rfl
theorem V_v15 (d : Fin 128) : (V m c main_v15 : FVec Ideal S2x1x128 .f32) (ix3 0 0 d) = (args m c).gq d := by
  unfold V
  after_reads_at
  rfl

set_option maxHeartbeats 4000000 in
/-- Point `8 b + n` reads rows `1024 n …` of sequence `b` of the arguments. -/
theorem holds (t : Fin cfg0.N) (b : Fin 2) (n : Fin 8) (ht : t.val = 8 * b.val + n.val) (s0 : Fin 4 → FVec Ideal S128x256 .f32) :
    (blocks m c t s0).Holds (args m c) b n where
  x r d := by
    show iblk m c 3 t (ix3 0 r d) = m ((c.tc : Thread nD τ).loc main_arg0) (ix3 b _ d)
    blk_ext [iblk, V, index3 t]
  pos r := by
    refine Eq.trans ?_ (V_v10 m c b _)
    show iblk m c 4 t (ix3 0 0 r) = V m c main_v10 (ix3 b 0 _)
    blk_ext [iblk, index4 t]
  invf i := by
    refine Eq.trans ?_ (V_v8 m c i)
    show iblk m c 5 t (ix2 i 0) = V m c main_v8 (ix2 i 0)
    blk_ext [iblk, index5 t]
  gn d := by
    refine Eq.trans ?_ (V_v13 m c d)
    show iblk m c 6 t (ix3 0 0 d) = V m c main_v13 (ix3 0 0 d)
    blk_ext [iblk, index6 t]
  win d j := by
    show iblk m c 7 t (ix3 0 d j) = m ((c.tc : Thread nD τ).loc main_arg3) (ix3 0 d j)
    blk_ext [iblk, V, index7 t]
  gret e := by
    refine Eq.trans ?_ (V_v14 m c e)
    show iblk m c 8 t (ix3 0 0 e) = V m c main_v14 (ix3 0 0 e)
    blk_ext [iblk, index8 t]
  wout j d := by
    show iblk m c 9 t (ix3 0 j d) = m ((c.tc : Thread nD τ).loc main_arg5) (ix3 0 j d)
    blk_ext [iblk, V, index9 t]
  kt d k := by
    show iblk m c 10 t (ix4 0 0 d k) = m ((c.tc : Thread nD τ).loc main_arg6) (ix4 0 b d k)
    blk_ext [iblk, V, index10 t]
  mv k d := by
    show iblk m c 11 t (ix4 0 0 k d) = m ((c.tc : Thread nD τ).loc main_arg7) (ix4 0 b k d)
    blk_ext [iblk, V, index11 t]
  gq d := by
    refine Eq.trans ?_ (V_v15 m c d)
    show iblk m c 12 t (ix3 0 0 d) = V m c main_v15 (ix3 0 0 d)
    blk_ext [iblk, index12 t]

end Cert.Layer.Body
-- ==== Proof.Fold.lean ====
module

public import proofs.«01_k».proof.Proof.Points

@[expose] public section

/-!
# The kernel's results

The carried state and the output block after every grid point, by induction over the points, and from them the contents of
the four result arrays.
-/

open Idealize.ShloMosaic Idealize.ShloMosaic.TcCoe
open Cert.KernelIdeal Cert.KernelIdeal.Gen Cert.KernelIdeal.Value

set_option maxRecDepth 16384

noncomputable section

namespace Cert.Layer.Body

attribute [local irreducible] out0_A_13 out0_A_14 out0_A_15 out0_A_16 sout0_A_0 out0_B_13 out0_B_14 out0_B_15 out0_B_16 sout0_B_0

variable (m : (ℓ : Loc nD τ sig) → Buf (Elt Ideal) ℓ) (c : Dev nD)

/-- What one grid point leaves: three cast weight blocks, the output block and the carried state. -/
abbrev Left : Type :=
  Vec Ideal S64x3072 .bf16 × Vec Ideal S96x1024 .bf16 × Vec Ideal S64x2048 .bf16 × Vec Ideal S1x1024x1024 .f32 × Vec Ideal S4x128x256 .f32

/-- The output block of the first point of a sequence. -/
theorem left_out_A (t : Fin cfg0.N) (acc : Left) (h0 : t.val % 8 = 0) :
    (stAt0 m c t.val t.isLt acc).2.2.2.1 = View.canon (blocks m c t (heads (k0_pay5 (F := Ideal)))).outPieces := by
  rw [stAt0_A m c t acc h0]
  exact out_A (F := Ideal) ..

/-- The carried state after the first point of a sequence. -/
theorem left_state_A (t : Fin cfg0.N) (acc : Left) (h0 : t.val % 8 = 0) :
    (stAt0 m c t.val t.isLt acc).2.2.2.2 = View.canon ((blocks m c t (heads (k0_pay5 (F := Ideal)))).statePieces
      ++ [⟨Rect.unit ![0, 0, 0] S4x128x256.size (by decide), k0_pay5 (F := Ideal)⟩]) := by
  rw [stAt0_A m c t acc h0]
  exact state_A (F := Ideal) ..

/-- The output block of another point. -/
theorem left_out_B (t : Fin cfg0.N) (acc : Left) (h0 : ¬t.val % 8 = 0) :
    (stAt0 m c t.val t.isLt acc).2.2.2.1 = View.canon (blocks m c t (heads acc.2.2.2.2)).outPieces := by
  rw [stAt0_B m c t acc h0]
  exact out_B (F := Ideal) ..

/-- The carried state after another point. -/
theorem left_state_B (t : Fin cfg0.N) (acc : Left) (h0 : ¬t.val % 8 = 0) :
    (stAt0 m c t.val t.isLt acc).2.2.2.2 = View.canon ((blocks m c t (heads acc.2.2.2.2)).statePieces ++ []) := by
  rw [stAt0_B m c t acc h0, List.append_nil]
  exact state_B (F := Ideal) ..

/-- Each point casts its block of the first weight. -/
theorem left_cast0 (t : Fin cfg0.N) (acc : Left) : (stAt0 m c t.val t.isLt acc).1 = k0_pay2 (iblk m c 0 t) := by
  by_cases h0 : t.val % 8 = 0
  · rw [stAt0_A m c t acc h0]; exact cast0_A (F := Ideal) ..
  · rw [stAt0_B m c t acc h0]; exact cast0_B (F := Ideal) ..

/-- Each point casts its block of the second weight. -/
theorem left_cast1 (t : Fin cfg0.N) (acc : Left) : (stAt0 m c t.val t.isLt acc).2.1 = k0_pay3 (iblk m c 1 t) := by
  by_cases h0 : t.val % 8 = 0
  · rw [stAt0_A m c t acc h0]; exact cast1_A (F := Ideal) ..
  · rw [stAt0_B m c t acc h0]; exact cast1_B (F := Ideal) ..

/-- Each point casts its block of the third weight. -/
theorem left_cast2 (t : Fin cfg0.N) (acc : Left) : (stAt0 m c t.val t.isLt acc).2.2.1 = k0_pay4 (iblk m c 2 t) := by
  by_cases h0 : t.val % 8 = 0
  · rw [stAt0_A m c t acc h0]; exact cast2_A (F := Ideal) ..
  · rw [stAt0_B m c t acc h0]; exact cast2_B (F := Ideal) ..

/-- One point: started from the state at the beginning of its rows, it leaves the layer's rows and the state at their end. -/
theorem point (F : (args m c).Finite) (t : Fin cfg0.N) (b : Fin 2) (n : Fin 8) (ht : t.val = 8 * b.val + n.val) (acc : Left)
    (hacc : n.val ≠ 0 → ∀ (h : Fin 4) (d : Fin 128) (e : Fin 256), acc.2.2.2.2 (ix3 h d e) = (args m c).st b h (1024 * n.val) d e) :
    (∀ (r : Fin 1024) (d : Fin 1024), (stAt0 m c t.val t.isLt acc).2.2.2.1 (ix3 0 r d) = (args m c).y b ⟨1024 * n.val + r.val, by omega⟩ d)
    ∧ ∀ (h : Fin 4) (d : Fin 128) (e : Fin 256), (stAt0 m c t.val t.isLt acc).2.2.2.2 (ix3 h d e) = (args m c).st b h (1024 * (n.val + 1)) d e := by
  by_cases h0 : t.val % 8 = 0
  · have hn : n.val = 0 := by omega
    have hS : ∀ (h : Fin 4) (d : Fin 128) (e : Fin 256), (blocks m c t (heads (k0_pay5 (F := Ideal)))).s0 h (ix2 d e) = (args m c).st b h (1024 * n.val) d e := by
      intro h d e
      refine (heads_zero h d e).trans ?_
      rw [hn]
      unfold Args.st
      rw [Nat.mul_zero, state_zero]; rfl
    refine ⟨fun r d => ?_, fun h d e => ?_⟩
    · rw [left_out_A m c t acc h0]
      exact (holds m c t b n ht _).outPieces F hS r d
    · rw [left_state_A m c t acc h0]
      exact (holds m c t b n ht _).statePieces F hS _ h d e
  · have hS : ∀ (h : Fin 4) (d : Fin 128) (e : Fin 256), (blocks m c t (heads acc.2.2.2.2)).s0 h (ix2 d e) = (args m c).st b h (1024 * n.val) d e := by
      intro h d e
      exact (heads_apply _ h d e).trans (hacc (by omega) h d e)
    refine ⟨fun r d => ?_, fun h d e => ?_⟩
    · rw [left_out_B m c t acc h0]
      exact (holds m c t b n ht _).outPieces F hS r d
    · rw [left_state_B m c t acc h0]
      exact (holds m c t b n ht _).statePieces F hS _ h d e

/-- What the points up to `j` leave. -/
abbrev upTo (j : ℕ) (hj : 0 + j < cfg0.N) : Left := Pipeline.accAt (fun n h => stAt0 m c n h junk0) (stAt0 m c) 0 j hj

/-- After point `8 b + n`: the layer's rows `1024 n …` of sequence `b`, and the state at row `1024 (n + 1)`. -/
theorem upTo_holds (F : (args m c).Finite) (j : ℕ) : ∀ (hj : 0 + j < cfg0.N) (b : Fin 2) (n : Fin 8), j = 8 * b.val + n.val →
    (∀ (r : Fin 1024) (d : Fin 1024), (upTo m c j hj).2.2.2.1 (ix3 0 r d) = (args m c).y b ⟨1024 * n.val + r.val, by omega⟩ d)
    ∧ ∀ (h : Fin 4) (d : Fin 128) (e : Fin 256), (upTo m c j hj).2.2.2.2 (ix3 h d e) = (args m c).st b h (1024 * (n.val + 1)) d e := by
  induction j with
  | zero => exact fun hj b n e => point m c F ⟨0, hj⟩ b n e junk0 (fun h => absurd h (by omega))
  | succ j ih =>
    intro hj b n e
    refine point m c F ⟨0 + (j + 1), hj⟩ b n (by simp only; omega) (upTo m c j (Nat.lt_of_succ_lt hj)) (fun hn h d e' => ?_)
    have := (ih (Nat.lt_of_succ_lt hj) b ⟨n.val - 1, by omega⟩ (by simp only; omega)).2 h d e'
    rw [this]
    congr 1
    simp only
    omega

/-- The first cast weight after any point is that point's block. -/
theorem upTo_cast0 : ∀ (j : ℕ) (hj : 0 + j < cfg0.N), (upTo m c j hj).1 = k0_pay2 (iblk m c 0 ⟨0 + j, hj⟩)
  | 0, hj => left_cast0 m c ⟨0, hj⟩ junk0
  | j + 1, hj => left_cast0 m c ⟨0 + (j + 1), hj⟩ _

/-- The second cast weight after any point is that point's block. -/
theorem upTo_cast1 : ∀ (j : ℕ) (hj : 0 + j < cfg0.N), (upTo m c j hj).2.1 = k0_pay3 (iblk m c 1 ⟨0 + j, hj⟩)
  | 0, hj => left_cast1 m c ⟨0, hj⟩ junk0
  | j + 1, hj => left_cast1 m c ⟨0 + (j + 1), hj⟩ _

/-- The third cast weight after any point is that point's block. -/
theorem upTo_cast2 : ∀ (j : ℕ) (hj : 0 + j < cfg0.N), (upTo m c j hj).2.2.1 = k0_pay4 (iblk m c 2 ⟨0 + j, hj⟩)
  | 0, hj => left_cast2 m c ⟨0, hj⟩ junk0
  | j + 1, hj => left_cast2 m c ⟨0 + (j + 1), hj⟩ _

/-- The layer's output array. -/
theorem G16_eq (F : (args m c).Finite) (b : Fin 2) (t : Fin 8192) (d : Fin 1024) :
    (G16 m c : FVec Ideal S2x8192x1024 .f32) (ix3 b t d) = (args m c).y b t d := by
  have hN : cfg0.N = 16 := N_0
  unfold G16
  rw [dif_pos (show pt16Of (ix3 b t d) < cfg0.N by rw [hN]; show 8 * (b.val / 1 - 0) + 1 * (t.val / 1024 - 0) + 1 * (d.val / 1024 - 0) < 16; omega)]
  have hl : loc16Of (ix3 b t d) = ix3 0 ⟨t.val % 1024, Nat.mod_lt _ (by decide)⟩ d := by
    funext a
    match a with
    | ⟨0, _⟩ => exact Fin.ext (Nat.mod_one _)
    | ⟨1, _⟩ => rfl
    | ⟨2, _⟩ => exact Fin.ext (Nat.mod_eq_of_lt d.isLt)
  rw [hl]
  refine ((upTo_holds m c F _ _ b ⟨t.val / 1024, by omega⟩ ?_).1 _ d).trans ?_
  · show 8 * (b.val / 1 - 0) + 1 * (t.val / 1024 - 0) + 1 * (d.val / 1024 - 0) = _
    simp only
    omega
  · congr 1
    exact Fin.ext (Nat.div_add_mod _ _)

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![t.val, 0] := by decide +kernel

/-- The first weight as the call reads it: its one layer. -/
theorem V_v11 (i : Fin 1024) (j : Fin 3072) :
    (V m c main_v11 : FVec Ideal S1024x3072 .f32) (ix2 i j) = m ((c.tc : Thread nD τ).loc main_arg9) (ix3 0 i j) := by
  unfold V
  after_reads_at

/-- A point's cast block of the first weight. -/
theorem cast_block0 (t : Fin cfg0.N) (r : Fin 64) (j : Fin 3072) (i : Fin 1024) (hi : i.val = 64 * t.val + r.val) :
    (k0_pay2 (F := Ideal) (iblk m c 0 t) : FVec Ideal S64x3072 .bf16) (ix2 r j) = (V m c main_v11 : FVec Ideal S1024x3072 .f32) (ix2 i j) := by
  refine Eq.trans (b := (iblk m c 0 t : FVec Ideal S64x3072 .f32) (ix2 r j)) ?_ ?_
  · unfold k0_pay2
    pointwise
  · blk_ext [iblk, index0 t]

/-- The first cast weight's array is the weight. -/
theorem G13_eq (i : Fin 1024) (j : Fin 3072) :
    (G13 m c : FVec Ideal S1024x3072 .bf16) (ix2 i j) = m ((c.tc : Thread nD τ).loc main_arg9) (ix3 0 i j) := by
  have hN : cfg0.N = 16 := N_0
  have hp : pt13Of (ix2 i j) = i.val / 64 := by
    show 1 * (i.val / 64 - 0) + 1 * (j.val / 3072 - 0) = _
    omega
  have hl : loc13Of (ix2 i j) = ix2 ⟨i.val % 64, Nat.mod_lt _ (by decide)⟩ j := by
    funext a
    match a with
    | ⟨0, _⟩ => rfl
    | ⟨1, _⟩ => exact Fin.ext (Nat.mod_eq_of_lt j.isLt)
  unfold G13
  rw [dif_pos (show pt13Of (ix2 i j) < cfg0.N by rw [hN, hp]; omega), hl]
  refine (congrFun (upTo_cast0 m c _ _) _).trans ((cast_block0 m c _ _ j i ?_).trans (V_v11 m c i j))
  show i.val = 64 * (0 + pt13Of (ix2 i j)) + i.val % 64
  rw [hp]
  omega

/-- The second weight as the call reads it: its one layer. -/
theorem V_v12 (i : Fin 1536) (j : Fin 1024) :
    (V m c main_v12 : FVec Ideal S1536x1024 .f32) (ix2 i j) = m ((c.tc : Thread nD τ).loc main_arg10) (ix3 0 i j) := by
  unfold V
  after_reads_at

/-- A point's cast block of the second weight. -/
theorem cast_block1 (t : Fin cfg0.N) (r : Fin 96) (j : Fin 1024) (i : Fin 1536) (hi : i.val = 96 * t.val + r.val) :
    (k0_pay3 (F := Ideal) (iblk m c 1 t) : FVec Ideal S96x1024 .bf16) (ix2 r j) = (V m c main_v12 : FVec Ideal S1536x1024 .f32) (ix2 i j) := by
  refine Eq.trans (b := (iblk m c 1 t : FVec Ideal S96x1024 .f32) (ix2 r j)) ?_ ?_
  · unfold k0_pay3
    pointwise
  · blk_ext [iblk, index1 t]

/-- The second cast weight's array is the weight. -/
theorem G14_eq (i : Fin 1536) (j : Fin 1024) :
    (G14 m c : FVec Ideal S1536x1024 .bf16) (ix2 i j) = m ((c.tc : Thread nD τ).loc main_arg10) (ix3 0 i j) := by
  have hN : cfg0.N = 16 := N_0
  have hp : pt14Of (ix2 i j) = i.val / 96 := by
    show 1 * (i.val / 96 - 0) + 1 * (j.val / 1024 - 0) = _
    omega
  have hl : loc14Of (ix2 i j) = ix2 ⟨i.val % 96, Nat.mod_lt _ (by decide)⟩ j := by
    funext a
    match a with
    | ⟨0, _⟩ => rfl
    | ⟨1, _⟩ => exact Fin.ext (Nat.mod_eq_of_lt j.isLt)
  unfold G14
  rw [dif_pos (show pt14Of (ix2 i j) < cfg0.N by rw [hN, hp]; omega), hl]
  refine (congrFun (upTo_cast1 m c _ _) _).trans ((cast_block1 m c _ _ j i ?_).trans (V_v12 m c i j))
  show i.val = 96 * (0 + pt14Of (ix2 i j)) + i.val % 96
  rw [hp]
  omega

/-- A point's cast block of the third weight. -/
theorem cast_block2 (t : Fin cfg0.N) (r : Fin 64) (j : Fin 2048) (i : Fin 1024) (hi : i.val = 64 * t.val + r.val) :
    (k0_pay4 (F := Ideal) (iblk m c 2 t) : FVec Ideal S64x2048 .bf16) (ix2 r j) = (V m c main_arg11 : FVec Ideal S1024x2048 .f32) (ix2 i j) := by
  refine Eq.trans (b := (iblk m c 2 t : FVec Ideal S64x2048 .f32) (ix2 r j)) ?_ ?_
  · unfold k0_pay4
    pointwise
  · blk_ext [iblk, index2 t]

/-- The third cast weight's array is the weight. -/
theorem G15_eq (i : Fin 1024) (j : Fin 2048) :
    (G15 m c : FVec Ideal S1024x2048 .bf16) (ix2 i j) = m ((c.tc : Thread nD τ).loc main_arg11) (ix2 i j) := by
  have hN : cfg0.N = 16 := N_0
  have hp : pt15Of (ix2 i j) = i.val / 64 := by
    show 1 * (i.val / 64 - 0) + 1 * (j.val / 2048 - 0) = _
    omega
  have hl : loc15Of (ix2 i j) = ix2 ⟨i.val % 64, Nat.mod_lt _ (by decide)⟩ j := by
    funext a
    match a with
    | ⟨0, _⟩ => rfl
    | ⟨1, _⟩ => exact Fin.ext (Nat.mod_eq_of_lt j.isLt)
  unfold G15
  rw [dif_pos (show pt15Of (ix2 i j) < cfg0.N by rw [hN, hp]; omega), hl]
  refine (congrFun (upTo_cast2 m c _ _) _).trans ((cast_block2 m c _ _ j i ?_).trans (rfl))
  show i.val = 64 * (0 + pt15Of (ix2 i j)) + i.val % 64
  rw [hp]
  omega

end Cert.Layer.Body
-- ==== Proof.Ref1.lean ====
module

public import proofs.«01_k».proof.Proof.Entry
public import proofs.«01_k».proof.Proof.ReadA
public import proofs.«01_k».proof.Proof.Gen.ReferenceIdeal.Run
public import Idealize.ShloMosaic.Lib.StableHlo.ReadAt
public import Idealize.ShloMosaic.Lib.Pointwise

@[expose] public section

/-!
# The reference's operations before its loop, read entry by entry
-/

open Idealize.ShloMosaic Idealize.ShloMosaic.TcCoe Idealize.ShloMosaic.StableHlo
open Cert.ReferenceIdeal Cert.ReferenceIdeal.Gen Cert.ReferenceIdeal.Value Cert.Layer.Body

set_option maxRecDepth 16384
set_option maxHeartbeats 1000000

noncomputable section

namespace Cert.Layer.Ref

variable (V : Valuation τ sig (Elt Ideal))

/-- The layer's arguments, as the reference finds them. -/
def args : Args :=
  argsOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8))

/-- The in-projection as the reference leaves it. -/
def uBuf : FVec Ideal S2x8192x4096 .f32 := after hostOps0 V (Proc.devRef .tc main_v26)

theorem u_31 : upto hostOps0 V 31 (no_index (Proc.devRef .tc main_v26)) = uBuf V := by
  unfold uBuf; after_reads_simp
theorem u_66 : upto hostOps0 V 66 (no_index (Proc.devRef .tc main_v26)) = uBuf V := by
  unfold uBuf; after_reads_simp
theorem u_101 : upto hostOps0 V 101 (no_index (Proc.devRef .tc main_v26)) = uBuf V := by
  unfold uBuf; after_reads_simp

theorem u_apply (b : Fin 2) (t : Fin 8192) (j : Fin 4096) : uBuf V (ix3 b t j) = (args V).u b t j := by
  unfold uBuf
  after_reads_at
  rfl

/-- The rotary halves, before they are put side by side: the queries' and the keys'. -/
def qLow : FVec Ideal S2x4x8192x64 .f32 := upto hostOps0 V 65 (Proc.devRef .tc main_v52)
def qHigh : FVec Ideal S2x4x8192x64 .f32 := upto hostOps0 V 65 (Proc.devRef .tc main_v57)
def kLow : FVec Ideal S2x4x8192x64 .f32 := upto hostOps0 V 100 (Proc.devRef .tc main_v84)
def kHigh : FVec Ideal S2x4x8192x64 .f32 := upto hostOps0 V 100 (Proc.devRef .tc main_v89)

theorem qLow_apply (b : Fin 2) (h : Fin 4) (t : Fin 8192) (d : Fin 64) : qLow V (ix4 b h t d) =
    (args V).u b t ⟨h.val * 128 + d.val, by omega⟩ * Ideal.cos ((args V).angle b t d)
      - (args V).u b t ⟨h.val * 128 + (64 + d.val), by omega⟩ * Ideal.sin ((args V).angle b t d) := by
  unfold qLow
  after_reads_simp [u_31]
  clean_types
  pointwise [u_apply]
  rfl
theorem qHigh_apply (b : Fin 2) (h : Fin 4) (t : Fin 8192) (d : Fin 64) : qHigh V (ix4 b h t d) =
    (args V).u b t ⟨h.val * 128 + d.val, by omega⟩ * Ideal.sin ((args V).angle b t d)
      + (args V).u b t ⟨h.val * 128 + (64 + d.val), by omega⟩ * Ideal.cos ((args V).angle b t d) := by
  unfold qHigh
  after_reads_simp [u_31]
  clean_types
  pointwise [u_apply]
  rfl
theorem kLow_apply (b : Fin 2) (h : Fin 4) (t : Fin 8192) (d : Fin 64) : kLow V (ix4 b h t d) =
    (args V).u b t ⟨512 + (h.val * 128 + d.val), by omega⟩ * Ideal.cos ((args V).angle b t d)
      - (args V).u b t ⟨512 + (h.val * 128 + (64 + d.val)), by omega⟩ * Ideal.sin ((args V).angle b t d) := by
  unfold kLow
  after_reads_simp [u_66]
  clean_types
  pointwise [u_apply]
  rfl
theorem kHigh_apply (b : Fin 2) (h : Fin 4) (t : Fin 8192) (d : Fin 64) : kHigh V (ix4 b h t d) =
    (args V).u b t ⟨512 + (h.val * 128 + d.val), by omega⟩ * Ideal.sin ((args V).angle b t d)
      + (args V).u b t ⟨512 + (h.val * 128 + (64 + d.val)), by omega⟩ * Ideal.cos ((args V).angle b t d) := by
  unfold kHigh
  after_reads_simp [u_66]
  clean_types
  pointwise [u_apply]
  rfl

theorem qLow_65 : upto hostOps0 V 65 (no_index (Proc.devRef .tc main_v52)) = qLow V := rfl
theorem qHigh_65 : upto hostOps0 V 65 (no_index (Proc.devRef .tc main_v57)) = qHigh V := rfl
theorem kLow_100 : upto hostOps0 V 100 (no_index (Proc.devRef .tc main_v84)) = kLow V := rfl
theorem kHigh_100 : upto hostOps0 V 100 (no_index (Proc.devRef .tc main_v89)) = kHigh V := rfl

/-- The rotary embedding, the second half's lanes counted from lane 64. -/
theorem rot_halves (f : Fin 128 → EReal) (a : Fin 64 → EReal) (d : Fin 128) : rot f a d =
    if h : d.val < 64 then f d * Ideal.cos (a ⟨d.val, h⟩) - f ⟨64 + d.val, by omega⟩ * Ideal.sin (a ⟨d.val, h⟩)
    else f ⟨d.val - 64, by omega⟩ * Ideal.sin (a ⟨d.val - 64, by omega⟩)
      + f ⟨64 + (d.val - 64), by omega⟩ * Ideal.cos (a ⟨d.val - 64, by omega⟩) := by
  unfold rot
  by_cases h : d.val < 64
  · rw [dif_pos h, dif_pos h, show (⟨d.val + 64, by omega⟩ : Fin 128) = ⟨64 + d.val, by omega⟩ from Fin.ext (by simp only []; omega)]
  · rw [dif_neg h, dif_neg h, show (⟨64 + (d.val - 64), by omega⟩ : Fin 128) = d from Fin.ext (by simp only []; omega)]

/-- The token of row `r` of chunk `c`. -/
def tk (c : Fin 64) (r : Fin 128) : Fin 8192 := ⟨c.val * 128 + r.val, by omega⟩

theorem q_apply (b : Fin 2) (h : Fin 4) (c : Fin 64) (r : Fin 128) (d : Fin 128)  :
    (after hostOps0 V (Proc.devRef .tc main_v97) : FVec Ideal S2x4x64x128x128 .f32) (ix5 b h c r d) = (args V).q b h (tk c r) d := by
  after_reads_simp [qLow_65, qHigh_65]
  clean_types
  pointwise [qLow_apply, qHigh_apply]
  unfold Args.q
  rw [rot_halves]
  rfl
theorem k_apply (b : Fin 2) (h : Fin 4) (c : Fin 64) (r : Fin 128) (d : Fin 128)  :
    (after hostOps0 V (Proc.devRef .tc main_v98) : FVec Ideal S2x4x64x128x128 .f32) (ix5 b h c r d) = (args V).k b h (tk c r) d := by
  after_reads_simp [kLow_100, kHigh_100]
  clean_types
  pointwise [kLow_apply, kHigh_apply]
  unfold Args.k
  rw [rot_halves]
  simp only [Nat.add_assoc]
  rfl
theorem v_apply (b : Fin 2) (h : Fin 4) (c : Fin 64) (r : Fin 128) (d : Fin 256)  :
    (after hostOps0 V (Proc.devRef .tc main_v99) : FVec Ideal S2x4x64x128x256 .f32) (ix5 b h c r d) = (args V).v b h (tk c r) d := by
  after_reads_simp [u_101]
  clean_types
  pointwise [u_apply]
  unfold Args.v
  simp only [Nat.add_assoc]
  rfl
theorem kt_apply (b : Fin 2) (h : Fin 4) (m : Fin 256) (d : Fin 128) :
    (after hostOps0 V (Proc.devRef .tc main_v4) : FVec Ideal S2x4x256x128 .f32) (ix4 b h m d) = (args V).kt b ⟨h.val * 128 + d.val, by omega⟩ m := by
  after_reads_at
  rfl
theorem mv_apply (b : Fin 2) (h : Fin 4) (m : Fin 256) (d : Fin 128) :
    (after hostOps0 V (Proc.devRef .tc main_v9) : FVec Ideal S2x4x256x128 .f32) (ix4 b h m d) = (args V).mv b m ⟨h.val * 128 + d.val, by omega⟩ := by
  after_reads_at
  rfl

theorem lit_gamma (h : Fin 4) : Ideal.ofBits FTy.f32 (lit0 (S4.rowMajor (ix1 h))) = ((gamma h : ℝ) : EReal) := by
  fin_cases h
  · show Ideal.ofBits FTy.f32 0x3F780000#32 = ((31 / 32 : ℝ) : EReal)
    simp [Ideal.ofBits, Ideal.ieee, -EReal.coe_mul]; norm_num
  · show Ideal.ofBits FTy.f32 0x3F7C0000#32 = ((63 / 64 : ℝ) : EReal)
    simp [Ideal.ofBits, Ideal.ieee, -EReal.coe_mul]; norm_num
  · show Ideal.ofBits FTy.f32 0x3F7E0000#32 = ((127 / 128 : ℝ) : EReal)
    simp [Ideal.ofBits, Ideal.ieee, -EReal.coe_mul]; norm_num
  · show Ideal.ofBits FTy.f32 0x3F7F0000#32 = ((255 / 256 : ℝ) : EReal)
    simp [Ideal.ofBits, Ideal.ieee, -EReal.coe_mul]; norm_num

theorem log_gamma (h : Fin 4) : Ideal.log (Ideal.ofBits FTy.f32 (lit0 (S4.rowMajor (ix1 h)))) = ((Real.log (gamma h) : ℝ) : EReal) := by
  rw [lit_gamma, Ideal.log_coe, if_neg (not_le.mpr (gamma_pos h))]

theorem sitofp_lane (r : Fin 128) : FloatOps.sitofp (F := Ideal) FTy.f32 (BitVec.ofNat 32 r.val) = (((r.val : ℝ)) : EReal) := by
  show (((BitVec.ofNat 32 r.val).toInt : ℝ) : EReal) = _
  rw [BitVec.toInt_ofNat', Int.bmod_def, if_pos (by have := r.isLt; omega), Int.emod_eq_of_lt (by omega) (by have := r.isLt; omega)]
  norm_num

theorem lg_apply (h : Fin 4) : (after hostOps0 V (Proc.devRef .tc main_v94) : FVec Ideal S4 .f32) (ix1 h) = ((Real.log (gamma h) : ℝ) : EReal) := by
  after_reads_at
  exact log_gamma h
theorem lane_apply (r : Fin 128) : (after hostOps0 V (Proc.devRef .tc main_v100) : FVec Ideal S128 .f32) (ix1 r) = ((r.val : ℝ) : EReal) := by
  after_reads_at
  exact sitofp_lane r

/-- The reference's decay matrix within a chunk, before the causal mask. -/
theorem decay_pos (h : Fin 4) (r s : Fin 128) (hs : s.val ≤ r.val) :
    (after hostOps0 V (Proc.devRef .tc main_v116) : FVec Ideal S4x128x128 .f32) (ix3 h r s) = ((gamma h ^ (r.val - s.val) : ℝ) : EReal) := by
  after_reads_at
  rw [sitofp_lane, sitofp_lane, log_gamma, ← EReal.coe_sub]
  have h0 : (0 : ℝ) ≤ (r.val : ℝ) - (s.val : ℝ) := by
    have : (s.val : ℝ) ≤ r.val := by exact_mod_cast hs
    linarith
  rw [max_eq_left (by exact_mod_cast h0)]
  exact exp_mul_log h _ _ (by push_cast [Nat.cast_sub hs]; ring)

/-- The reference's causal mask within a chunk. -/
theorem mask_apply (r s : Fin 128) :
    (after hostOps0 V (Proc.devRef .tc main_v108) : S1x128x128.Idx → BitVec 1) (ix3 0 r s) = BitVec.ofBool (decide (s.val ≤ r.val)) := by
  after_reads_at
  rw [sitofp_lane, sitofp_lane, ← EReal.coe_sub]
  congr 1
  rw [decide_eq_decide]
  rw [show (0 : EReal) = ((0 : ℝ) : EReal) from rfl, EReal.coe_le_coe_iff, sub_nonneg, Nat.cast_le]

theorem zero_apply : (after hostOps0 V (Proc.devRef .tc main_cst_12) : FVec Ideal S_ .f32) = fun _ => (0 : EReal) := by
  funext i
  show _ = (0 : EReal)
  after_reads_at

theorem args_after : args (after hostOps0 V) = args V := by
  unfold args
  after_reads_simp

end Cert.Layer.Ref
-- ==== Proof.Ref2.lean ====
module

public import proofs.«01_k».proof.Proof.Ref1
public import Idealize.ShloMosaic.Lib.DynamicIndex
public import Idealize.ShloMosaic.Lib.Pipeline.Value

@[expose] public section

/-!
# The reference's chunks and its loop over the chunk states
-/

open Idealize.ShloMosaic Idealize.ShloMosaic.TcCoe Idealize.ShloMosaic.StableHlo
open Cert.ReferenceIdeal Cert.ReferenceIdeal.Gen Cert.ReferenceIdeal.Value Cert.Layer.Body

set_option maxRecDepth 16384
set_option maxHeartbeats 1000000

noncomputable section

namespace Cert.Layer.Ref

/-- The buffers the later operations read of the ones before the loop. -/
abbrev keptRefs : List (Ref sig .tc) :=
  [main_v26, main_v4, main_v9, main_v97, main_v98, main_v99, main_v94, main_v100, main_arg0, main_arg1, main_arg2, main_arg3,
   main_arg4, main_arg5, main_arg6, main_arg7, main_arg8, main_arg9, main_arg10, main_arg11]

/-- What the later operations read of the ones before the loop: the in-projection, the memory, the queries, keys and
values by chunk, the logarithms of the decays, the row numbers, and the arguments. -/
structure Early (W : Valuation τ sig (Elt Ideal)) (A : Args) : Prop where
  u : ∀ b t j, (W (Proc.devRef .tc main_v26) : FVec Ideal S2x8192x4096 .f32) (ix3 b t j) = A.u b t j
  kt : ∀ b (h : Fin 4) m (d : Fin 128), (W (Proc.devRef .tc main_v4) : FVec Ideal S2x4x256x128 .f32) (ix4 b h m d) = A.kt b ⟨h.val * 128 + d.val, by omega⟩ m
  mv : ∀ b (h : Fin 4) m (d : Fin 128), (W (Proc.devRef .tc main_v9) : FVec Ideal S2x4x256x128 .f32) (ix4 b h m d) = A.mv b m ⟨h.val * 128 + d.val, by omega⟩
  q : ∀ b h c r d, (W (Proc.devRef .tc main_v97) : FVec Ideal S2x4x64x128x128 .f32) (ix5 b h c r d) = A.q b h (tk c r) d
  k : ∀ b h c r d, (W (Proc.devRef .tc main_v98) : FVec Ideal S2x4x64x128x128 .f32) (ix5 b h c r d) = A.k b h (tk c r) d
  v : ∀ b h c r d, (W (Proc.devRef .tc main_v99) : FVec Ideal S2x4x64x128x256 .f32) (ix5 b h c r d) = A.v b h (tk c r) d
  lg : ∀ h, (W (Proc.devRef .tc main_v94) : FVec Ideal S4 .f32) (ix1 h) = ((Real.log (gamma h) : ℝ) : EReal)
  lane : ∀ r : Fin 128, (W (Proc.devRef .tc main_v100) : FVec Ideal S128 .f32) (ix1 r) = ((r.val : ℝ) : EReal)
  args : args W = A

/-- They hold after the operations before the decay matrix. -/
theorem early (V : Valuation τ sig (Elt Ideal)) : Early (after hostOps0 V) (args V) :=
  ⟨u_apply V, kt_apply V, mv_apply V, q_apply V, k_apply V, v_apply V, lg_apply V, lane_apply V, args_after V⟩

/-- They hold as long as nothing writes these buffers. -/
theorem Early.mono {W W' : Valuation τ sig (Elt Ideal)} {A : Args} (E : Early W A)
    (h : ∀ r ∈ keptRefs, W' (Proc.devRef .tc r) = W (Proc.devRef .tc r)) : Early W' A where
  u b t j := (congrFun (h main_v26 (by decide)) _).trans (E.u b t j)
  kt b t m j := (congrFun (h main_v4 (by decide)) _).trans (E.kt b t m j)
  mv b t m j := (congrFun (h main_v9 (by decide)) _).trans (E.mv b t m j)
  q b t c r j := (congrFun (h main_v97 (by decide)) _).trans (E.q b t c r j)
  k b t c r j := (congrFun (h main_v98 (by decide)) _).trans (E.k b t c r j)
  v b t c r j := (congrFun (h main_v99 (by decide)) _).trans (E.v b t c r j)
  lg r := (congrFun (h main_v94 (by decide)) _).trans (E.lg r)
  lane r := (congrFun (h main_v100 (by decide)) _).trans (E.lane r)
  args := by
    rw [← E.args]
    unfold Ref.args
    rw [h main_arg0 (by decide), h main_arg1 (by decide), h main_arg2 (by decide), h main_arg3 (by decide), h main_arg4 (by decide),
      h main_arg5 (by decide), h main_arg6 (by decide), h main_arg7 (by decide), h main_arg8 (by decide)]

/-- Operations that write none of these buffers keep them. -/
theorem Early.after {W : Valuation τ sig (Elt Ideal)} {A : Args} (E : Early W A) (ops : List (HloOp τ sig (Elt Ideal))) {L : List (Ref sig .tc)}
    (hL : ops.Forall fun op => op.writes ⊆ (L.map (Proc.devRef (τ := τ) .tc)).toFinset) (h : ∀ r ∈ keptRefs, r ∉ L) : Early (after ops W) A :=
  E.mono fun r hr => after_of_writes_sub ops W hL (h r hr)

variable {W : Valuation τ sig (Elt Ideal)} {A : Args}

/-- The decay matrix, masked: `γ^(r-s)` for `s ≤ r`, else zero. -/
theorem decay_masked (V : Valuation τ sig (Elt Ideal)) (h : Fin 4) (r s : Fin 128) :
    (after hostOps0_1 (after hostOps0 V) (Proc.devRef .tc main_v117) : FVec Ideal S4x128x128 .f32) (ix3 h r s)
      = ((if s.val ≤ r.val then gamma h ^ (r.val - s.val) else 0 : ℝ) : EReal) := by
  have e1 := zero_apply V
  have e2 := mask_apply V r s
  have e3 := decay_pos V h r s
  generalize StableHlo.after hostOps0 V = W at e1 e2 e3 ⊢
  after_reads_simp
  simp -implicitDefEqProofs only [TRef.toBuf, TRef.ofBuf, cast_cast, cast_eq, id_eq]
  clean_types
  pointwise
  rw [e1, e2]
  by_cases hs : s.val ≤ r.val
  · rw [if_pos hs, ← e3 hs]
    simp [Scalar.select, hs]
  · simp [Scalar.select, hs]

/-- The contributions within a chunk. -/
theorem intra_apply (E : Early W A) (hD : ∀ (h : Fin 4) (r s : Fin 128), (W (Proc.devRef .tc main_v117) : FVec Ideal S4x128x128 .f32) (ix3 h r s)
      = ((if s.val ≤ r.val then gamma h ^ (r.val - s.val) else 0 : ℝ) : EReal))
    (b : Fin 2) (h : Fin 4) (c : Fin 64) (r : Fin 128) (e : Fin 256) :
    (after hostOps0_2 W (Proc.devRef .tc main_v122) : FVec Ideal S2x4x64x128x256 .f32) (ix5 b h c r e)
      = ∑ s : Fin 128, (∑ d : Fin 128, A.q b h (tk c r) d * A.k b h (tk c s) d)
        * ((if s.val ≤ r.val then gamma h ^ (r.val - s.val) else 0 : ℝ) : EReal) * A.v b h (tk c s) e := by
  after_reads_at
  refine Finset.sum_congr rfl fun s _ => ?_
  have e2 := E.v b h c s e
  have e3 := hD h r s
  rw [e2, e3]
  congr 2
  refine Finset.sum_congr rfl fun d _ => ?_
  have e1 := E.k b h c s d
  have e4 := E.q b h c r d
  rw [e1, e4]

/-- What a chunk adds to the state. -/
theorem chunk_kv_apply (E : Early W A) (b : Fin 2) (h : Fin 4) (c : Fin 64) (d : Fin 128) (e : Fin 256) :
    (after hostOps0_2 W (Proc.devRef .tc main_v142_0) : FVec Ideal S64x2x4x128x256 .f32) (ix5 c b h d e)
      = ∑ r : Fin 128, A.k b h (tk c r) d * ((gamma h ^ (127 - r.val) : ℝ) : EReal) * A.v b h (tk c r) e := by
  after_reads_simp
  simp only [id_eq]
  clean_types
  pointwise
  refine Finset.sum_congr rfl fun r _ => ?_
  have e1 := E.k b h c r d
  have e2 := E.v b h c r e
  have e3 := E.lane r
  have e4 := E.lg h
  rw [e1, e2, e3, e4, show Ideal.ofBits FTy.f32 1123942400#32 = ((127 : ℝ) : EReal) from by
    simp [Ideal.ofBits, Ideal.ieee, -EReal.coe_mul]; norm_num, ← EReal.coe_sub,
    exp_mul_log h (127 - r.val) _ (by rw [Nat.cast_sub (by omega)]; push_cast; ring)]

/-- The decay over a chunk. -/
theorem gamma_c_apply (E : Early W A) (h : Fin 4) :
    (after hostOps0_2 W (Proc.devRef .tc main_v142_1) : FVec Ideal S1x4x1x1 .f32) (ix4 0 h 0 0) = ((gamma h ^ 128 : ℝ) : EReal) := by
  after_reads_simp
  simp only [id_eq]
  clean_types
  pointwise
  have e4 := E.lg h
  rw [e4, ofBits_128, exp_mul_log h 128 _ (by norm_num)]

/-- The state starts at zero. -/
theorem start_apply (b : Fin 2) (h : Fin 4) (d : Fin 128) (e : Fin 256) :
    (after hostOps0_2 W (Proc.devRef .tc main_v142_3) : FVec Ideal S2x4x128x256 .f32) (ix4 b h d e) = (0 : EReal) := by
  after_reads_simp
  simp only [id_eq]
  clean_types
  pointwise

theorem kept1 : ∀ r ∈ keptRefs, r ∉ hostOps0_1_W := by decide
theorem kept2 : ∀ r ∈ keptRefs, r ∉ hostOps0_2_W := by decide

/-- A trip's slice begins at its chunk. -/
theorem starts (x : (⟨S_, .i32⟩ : BufTy).Contents (Elt Ideal)) (k : Fin 64) (hk : x = fun _ => BitVec.ofNat 32 k.val) (a : Fin 5) :
    (((![x, constantI S_ 32 0#32, constantI S_ 32 0#32, constantI S_ 32 0#32, constantI S_ 32 0#32] : Fin 5 → (⟨S_, .i32⟩ : BufTy).Contents (Elt Ideal)))
      a (Shape.Idx.first h_S_)).toInt = (((![k.val, 0, 0, 0, 0] : Fin 5 → ℕ) a : ℕ) : ℤ) := by
  fin_cases a
  · show (x _).toInt = (k.val : ℤ)
    rw [hk]
    exact toInt_ofNat_of_lt (by omega)
  all_goals rfl

/-- One trip's state: the decayed state plus the chunk's contribution. -/
theorem step3_apply (k : Fin 64) (hk : (W (Proc.devRef .tc main_v142_2) : (⟨S_, .i32⟩ : BufTy).Contents (Elt Ideal)) = fun _ => BitVec.ofNat 32 k.val)
    (b : Fin 2) (h : Fin 4) (d : Fin 128) (e : Fin 256) {g s kv : EReal}
    (hg : (W (Proc.devRef .tc main_v142_1) : FVec Ideal S1x4x1x1 .f32) (ix4 0 h 0 0) = g)
    (h3 : (W (Proc.devRef .tc main_v142_3) : FVec Ideal S2x4x128x256 .f32) (ix4 b h d e) = s)
    (h0 : (W (Proc.devRef .tc main_v142_0) : FVec Ideal S64x2x4x128x256 .f32) (ix5 k b h d e) = kv) :
    (step_main_v142_3 W : FVec Ideal S2x4x128x256 .f32) (ix4 b h d e) = g * s + kv := by
  have hs : ∀ k : Fin 64, S64x2x4x128x256.Slices ![k.val, 0, 0, 0, 0] S1x2x4x128x256 := by decide
  subst hg h3 h0
  unfold step_main_v142_3
  simp only [id_eq]
  rw [Host.dynamicSlice_eq_extractStridedSlice _ _ _ ![k.val, 0, 0, 0, 0] _ (hs k) (starts _ k hk)]
  clean_types
  pointwise

/-- One trip's record: the state before the trip at its chunk, elsewhere what was there. -/
theorem step4_apply (k : Fin 64) (hk : (W (Proc.devRef .tc main_v142_2) : (⟨S_, .i32⟩ : BufTy).Contents (Elt Ideal)) = fun _ => BitVec.ofNat 32 k.val)
    (c : Fin 64) (b : Fin 2) (h : Fin 4) (d : Fin 128) (e : Fin 256) {s o : EReal}
    (h3 : (W (Proc.devRef .tc main_v142_3) : FVec Ideal S2x4x128x256 .f32) (ix4 b h d e) = s)
    (h4 : (W (Proc.devRef .tc main_v142_4) : FVec Ideal S64x2x4x128x256 .f32) (ix5 c b h d e) = o) :
    (step_main_v142_4 W : FVec Ideal S64x2x4x128x256 .f32) (ix5 c b h d e) = if c.val = k.val then s else o := by
  have hs : ∀ k : Fin 64, S64x2x4x128x256.Slices ![k.val, 0, 0, 0, 0] S1x2x4x128x256 := by decide
  subst h3 h4
  unfold step_main_v142_4
  simp only [id_eq]
  rw [WordCmp.dynamicUpdateSlice_eq_update _ _ _ _ ![k.val, 0, 0, 0, 0] (hs k) (starts _ k hk)]
  clean_types
  pointwise
  by_cases e1 : c.val = k.val
  · rw [dif_pos ⟨by omega, by omega⟩, if_pos e1]
  · rw [dif_neg (by omega), if_neg e1]

/-! ## The loop -/

variable (m : (ℓ : Loc nD τ sig) → Buf (Elt Ideal) ℓ) (c : Dev nD)

/-- The buffers as the reference finds them. -/
abbrev V0 : Valuation τ sig (Elt Ideal) := fun b => m (c, b)

theorem entry_eq : entryContents preI m c = after hostOps0_2 (after hostOps0_1 (after hostOps0 (V0 m c))) := rfl

/-- What the operations after the decay matrix read. -/
theorem early2 : Early (after hostOps0_1 (after hostOps0 (V0 m c))) (args (V0 m c)) :=
  (early _).after _ hostOps0_1_writes kept1

theorem iv_eq (k : ℕ) : Scf.iv 0#32 1#32 k = BitVec.ofNat 32 k := by
  induction k with
  | zero => rfl
  | succ k ih => rw [Scf.iv_succ, ih]; simp [BitVec.ofNat_add]

/-- The loop keeps the buffers that neither its condition nor its body writes. -/
theorem loop_keeps (r : Ref sig .tc) (hc : r ∉ condOps_W) (h0 : r ∉ while0Ops0_W) (h1 : r ∉ while0Ops0_1_W) (h2 : r ∉ while0Ops0_2_W)
    (h3 : r ∉ while0Ops0_3_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub _ _ while0Ops0_3_writes h3, after_of_writes_sub _ _ while0Ops0_2_writes h2, after_of_writes_sub _ _ while0Ops0_1_writes h1,
      after_of_writes_sub _ _ while0Ops0_writes h0, after_of_writes_sub _ _ condOps_writes hc]
    exact loop_keeps r hc h0 h1 h2 h3 k

theorem chunk_sum (F : (args (V0 m c)).Finite) (b : Fin 2) (h : Fin 4) (k : Fin 64) (d : Fin 128) (e : Fin 256) :
    ((gamma h ^ 128 : ℝ) : EReal) * (args (V0 m c)).st b h (128 * k.val) d e
      + ∑ r : Fin 128, (args (V0 m c)).k b h (tk k r) d * ((gamma h ^ (127 - r.val) : ℝ) : EReal) * (args (V0 m c)).v b h (tk k r) e
      = (args (V0 m c)).st b h (128 * (k.val + 1)) d e := by
  rw [show 128 * (k.val + 1) = 128 * k.val + 128 from by ring]
  unfold Args.st
  rw [← chunk_state (gamma h) ((args (V0 m c)).kR b h) ((args (V0 m c)).vR b h) (128 * k.val) 128]
  congr 1
  refine Finset.sum_congr rfl fun r _ => ?_
  rw [F.kR_eq b h (tk k r) (128 * k.val + r.val) (by simp only [tk]; omega), F.vR_eq b h (tk k r) (128 * k.val + r.val) (by simp only [tk]; omega)]

/-- Before trip `k`: the carried state is the state before chunk `k`, and the record holds the states before the earlier
chunks. -/
theorem loop_state (F : (args (V0 m c)).Finite) (k : ℕ) (hk : k ≤ 64) :
    (∀ b h d e, (atK m k c (Proc.devRef .tc main_v142_3) : FVec Ideal S2x4x128x256 .f32) (ix4 b h d e) = (args (V0 m c)).st b h (128 * k) d e)
    ∧ ∀ (j : Fin 64) b h d e, j.val < k → (atK m k c (Proc.devRef .tc main_v142_4) : FVec Ideal S64x2x4x128x256 .f32) (ix5 j b h d e) = (args (V0 m c)).st b h (128 * j.val) d e := by
  induction k with
  | zero =>
    refine ⟨fun b h d e => ?_, fun j b h d e hj => absurd hj (Nat.not_lt_zero _)⟩
    refine (start_apply (W := after hostOps0_1 (after hostOps0 (V0 m c))) b h d e).trans ?_
    unfold Args.st
    rw [state_zero]; rfl
  | succ k ih =>
    obtain ⟨ih3, ih4⟩ := ih (by omega)
    have hctr : (atK m k c (Proc.devRef .tc main_v142_2) : (⟨S_, .i32⟩ : BufTy).Contents (Elt Ideal)) = fun _ => BitVec.ofNat 32 (⟨k, by omega⟩ : Fin 64).val :=
      (atK_ctr m c k).trans (funext fun _ => iv_eq k)
    have hA := trip_agree (atK m k c)
    have hS3 := (hA main_v142_3 (by decide)).trans (STEP_main_v142_3 _)
    have hS4 := (hA main_v142_4 (by decide)).trans (STEP_main_v142_4 _)
    have h0 : atK m k c (Proc.devRef .tc main_v142_0) = entryContents preI m c (Proc.devRef .tc main_v142_0) :=
      loop_keeps m c main_v142_0 (by decide) (by decide) (by decide) (by decide) (by decide) k
    have h1 : atK m k c (Proc.devRef .tc main_v142_1) = entryContents preI m c (Proc.devRef .tc main_v142_1) :=
      loop_keeps m c main_v142_1 (by decide) (by decide) (by decide) (by decide) (by decide) k
    refine ⟨fun b h d e => ?_, fun j b h d e hj => ?_⟩
    · refine (congrFun hS3 _).trans ((step3_apply ⟨k, by omega⟩ hctr b h d e ((congrFun h1 _).trans (gamma_c_apply (early2 m c) h)) (ih3 b h d e)
        ((congrFun h0 _).trans (chunk_kv_apply (early2 m c) b h ⟨k, by omega⟩ d e))).trans (chunk_sum m c F b h ⟨k, by omega⟩ d e))
    · refine (congrFun hS4 _).trans ((step4_apply ⟨k, by omega⟩ hctr j b h d e (ih3 b h d e) rfl).trans ?_)
      split_ifs with hjk
      · rw [hjk]
      · have hne : j.val ≠ k := hjk
        exact ih4 j b h d e (by omega)

end Cert.Layer.Ref
-- ==== Proof.Ref3.lean ====
module

public import proofs.«01_k».proof.Proof.Ref2
public import proofs.«01_k».proof.Proof.Finite

@[expose] public section

/-!
# The reference after its loop

The retention, its normalisation and gate, the memory's attention and gate, the out-projection and the three casts.
-/

open Idealize.ShloMosaic Idealize.ShloMosaic.TcCoe Idealize.ShloMosaic.StableHlo
open Cert.ReferenceIdeal Cert.ReferenceIdeal.Gen Cert.ReferenceIdeal.Value Cert.Layer.Body

set_option maxRecDepth 16384
set_option maxHeartbeats 1000000

noncomputable section

namespace Cert.Layer.Ref

variable {W : Valuation τ sig (Elt Ideal)} {A : Args}

/-- `e^{(r + 1) log γ}` is `γ^{r + 1}`. -/
theorem exp_lane (h : Fin 4) (r : Fin 128) :
    Ideal.exp ((((r.val : ℝ) : EReal) + 1) * ((Real.log (gamma h) : ℝ) : EReal)) = ((gamma h ^ (r.val + 1) : ℝ) : EReal) := by
  rw [show (((r.val : ℝ) : EReal) + 1) = (((r.val + 1 : ℕ) : ℝ) : EReal) by push_cast; rfl]
  exact exp_mul_log h (r.val + 1) _ rfl

/-- The retention, before it is normalised. -/
def retBuf (W : Valuation τ sig (Elt Ideal)) : FVec Ideal S2x4x8192x256 .f32 := after hostOps0_3 W (Proc.devRef .tc main_v157)

theorem retBuf_17 : upto hostOps0_3 W 17 (no_index (Proc.devRef .tc main_v157)) = retBuf W := by
  unfold retBuf; after_reads_simp
theorem retBuf_29 : upto hostOps0_3 W 29 (no_index (Proc.devRef .tc main_v157)) = retBuf W := by
  unfold retBuf; after_reads_simp

/-- The retention at a token: within its chunk, plus the state before the chunk, decayed. -/
theorem retBuf_chunk (E : Early W A) (b : Fin 2) (h : Fin 4) (t : Fin 8192) (e : Fin 256) {i : EReal} {S : Fin 128 → EReal}
    (hi : (W (Proc.devRef .tc main_v122) : FVec Ideal S2x4x64x128x256 .f32) (ix5 b h ⟨t.val / 128, by omega⟩ ⟨t.val % 128, by omega⟩ e) = i)
    (hS : ∀ d, (W (Proc.devRef .tc main_v142_4) : FVec Ideal S64x2x4x128x256 .f32) (ix5 ⟨t.val / 128, by omega⟩ b h d e) = S d) :
    retBuf W (ix4 b h t e) = i + (∑ d, A.q b h t d * S d) * ((gamma h ^ (t.val % 128 + 1) : ℝ) : EReal) := by
  unfold retBuf
  after_reads_at
  have ht : tk ⟨t.val / 128, by omega⟩ ⟨t.val % 128, by omega⟩ = t := Fin.ext (by simp only [tk]; omega)
  have e1 := E.lane ⟨t.val % 128, by omega⟩
  have e2 := E.lg h
  rw [e1, e2, exp_lane h, hi]
  congr 2
  refine Finset.sum_congr rfl fun d _ => ?_
  have e3 := E.q b h ⟨t.val / 128, by omega⟩ ⟨t.val % 128, by omega⟩ d
  rw [ht] at e3
  have e4 := hS d
  rw [e3, e4]

/-- The normalised retention, the heads side by side. -/
theorem normed_apply (E : Early W A) (hr : ∀ b h t e, retBuf W (ix4 b h t e) = A.ret b h t e) (b : Fin 2) (t : Fin 8192) (j : Fin 1024) :
    (after hostOps0_3 W (Proc.devRef .tc main_v173) : FVec Ideal S2x8192x1024 .f32) (ix3 b t j)
      = rms 0x43800000#32 (A.ret b ⟨j.val / 256, by omega⟩ t) A.gret ⟨j.val % 256, by omega⟩ := by
  after_reads_simp [retBuf_17, retBuf_29]
  clean_types
  pointwise [hr]
  have e : W (Proc.devRef .tc main_arg4) (ix2 0 ⟨j.val % 256, by omega⟩) = A.gret ⟨j.val % 256, by omega⟩ := by rw [← E.args]; rfl
  rw [e]
  rfl

/-- The retention's gate before its nonlinearity. -/
theorem gate_in_apply (E : Early W A) (b : Fin 2) (t : Fin 8192) (j : Fin 1024) :
    (after hostOps0_3 W (Proc.devRef .tc main_v174) : FVec Ideal S2x8192x1024 .f32) (ix3 b t j) = A.u b t ⟨2048 + j.val, by omega⟩ := by
  after_reads_at
  exact E.u b t _

/-- The retention's gate. -/
theorem gate_apply {g : EReal} (b : Fin 2) (t : Fin 8192) (j : Fin 1024)
    (hg : (W (Proc.devRef .tc main_v174) : FVec Ideal S2x8192x1024 .f32) (ix3 b t j) = g) :
    (after hostOps0_4 W (Proc.devRef .tc main_v175) : FVec Ideal S2x8192x1024 .f32) (ix3 b t j) = silu g := by
  subst hg
  after_reads_simp
  simp -implicitDefEqProofs only [TRef.toBuf, TRef.ofBuf, cast_cast, cast_eq, id_eq]
  clean_types
  pointwise
  rfl

/-- The memory's gate. -/
theorem mem_gate_apply {g : EReal} (b : Fin 2) (t : Fin 8192) (j : Fin 512)
    (hg : (W (Proc.devRef .tc main_v212) : FVec Ideal S2x8192x512 .f32) (ix3 b t j) = g) :
    (after hostOps0_6 W (Proc.devRef .tc main_v213) : FVec Ideal S2x8192x512 .f32) (ix3 b t j) = silu g := by
  subst hg
  after_reads_simp
  simp -implicitDefEqProofs only [TRef.toBuf, TRef.ofBuf, cast_cast, cast_eq, id_eq]
  clean_types
  pointwise
  rfl

/-- The gated retention. -/
theorem ret_gated_apply {x y : EReal} (b : Fin 2) (t : Fin 8192) (j : Fin 1024)
    (hx : (W (Proc.devRef .tc main_v173) : FVec Ideal S2x8192x1024 .f32) (ix3 b t j) = x)
    (hy : (W (Proc.devRef .tc main_v175) : FVec Ideal S2x8192x1024 .f32) (ix3 b t j) = y) :
    (after hostOps0_5 W (Proc.devRef .tc main_v176) : FVec Ideal S2x8192x1024 .f32) (ix3 b t j) = x * y := by
  subst hx hy
  after_reads_at

/-- The memory's gate before its nonlinearity. -/
theorem mem_gate_in_apply (E : Early W A) (b : Fin 2) (t : Fin 8192) (j : Fin 512) :
    (after hostOps0_5 W (Proc.devRef .tc main_v212) : FVec Ideal S2x8192x512 .f32) (ix3 b t j) = A.u b t ⟨3584 + j.val, by omega⟩ := by
  after_reads_at
  exact E.u b t _

/-- The memory's logits. -/
def logitBuf (W : Valuation τ sig (Elt Ideal)) : FVec Ideal S2x4x8192x256 .f32 := after hostOps0_5 W (Proc.devRef .tc main_v197)
/-- The exponentials of the logits less their row's maximum. -/
def expBuf (W : Valuation τ sig (Elt Ideal)) : FVec Ideal S2x4x8192x256 .f32 := after hostOps0_5 W (Proc.devRef .tc main_v204)

theorem logitBuf_27 : upto hostOps0_5 W 27 (no_index (Proc.devRef .tc main_v197)) = logitBuf W := by
  unfold logitBuf; after_reads_simp
theorem logitBuf_33 : upto hostOps0_5 W 33 (no_index (Proc.devRef .tc main_v197)) = logitBuf W := by
  unfold logitBuf; after_reads_simp
theorem expBuf_36 : upto hostOps0_5 W 36 (no_index (Proc.devRef .tc main_v204)) = expBuf W := by
  unfold expBuf; after_reads_simp
theorem expBuf_39 : upto hostOps0_5 W 39 (no_index (Proc.devRef .tc main_v204)) = expBuf W := by
  unfold expBuf; after_reads_simp

/-- The logits of memory head `h`. -/
theorem logit_apply (E : Early W A) (b : Fin 2) (h : Fin 4) (t : Fin 8192) (s : Fin 256) :
    logitBuf W (ix4 b h t s) = memLogit (fun d => A.u b t ⟨3072 + h.val * 128 + d.val, by omega⟩) A.gq
      (fun d m => A.kt b ⟨h.val * 128 + d.val, by omega⟩ m) s := by
  unfold logitBuf
  after_reads_at
  unfold memLogit
  congr 1
  refine Finset.sum_congr rfl fun d _ => ?_
  have e1 : ∀ d : Fin 128, W (Proc.devRef .tc main_v26) (ix3 b t ⟨3072 + (h.val * 128 + d.val), by omega⟩) = A.u b t ⟨3072 + h.val * 128 + d.val, by omega⟩ := by
    intro d
    simp only [Nat.add_assoc]
    exact E.u b t _
  have e2 : W (Proc.devRef .tc main_arg8) (ix2 0 d) = A.gq d := by rw [← E.args]; rfl
  have e3 := E.kt b h s d
  simp only [e1]
  rw [e2, e3]
  rfl

/-- The rows' maxima. -/
def maxBuf (W : Valuation τ sig (Elt Ideal)) : FVec Ideal S2x4x8192 .f32 := after hostOps0_5 W (Proc.devRef .tc main_v198)

theorem maxBuf_30 : upto hostOps0_5 W 30 (no_index (Proc.devRef .tc main_v198)) = maxBuf W := by
  unfold maxBuf; after_reads_simp

theorem maxBuf_eq : maxBuf W = Host.reduce (FloatOps.maximumf (F := Ideal)) (logitBuf W) (constant S_ .f32 0xFF800000#32)
    reducesTo_S2x4x8192x256_S2x4x8192_d3 h_S_ := by
  unfold maxBuf
  after_reads_simp [logitBuf_27]

theorem maxBuf_apply (b : Fin 2) (h : Fin 4) (t : Fin 8192) :
    maxBuf W (ix3 b h t) = Finset.univ.fold max ⊥ fun s => logitBuf W (ix4 b h t s) := by
  rw [maxBuf_eq]
  pointwise [ofBits_bot]

/-- The exponentials, as the operations give them. -/
theorem expBuf_eq : expBuf W = Host.exp (subf (logitBuf W) (broadcastInDim S2x4x8192x256 ![0, 1, 2, 3] bcast_S2x4x8192x1_S2x4x8192x256_0_1_2_3
    (broadcastInDim S2x4x8192x1 ![0, 1, 2] bcast_S2x4x8192_S2x4x8192x1_0_1_2
      (maximumf (broadcastInDim S2x4x8192 ![] bcast_S_S2x4x8192 (constant S_ .f32 0xFF800000#32)) (maxBuf W))))) := by
  unfold expBuf
  after_reads_simp [maxBuf_30, logitBuf_33]

/-- These operations at an index: the exponential of the entry less its row's maximum. -/
theorem exp_sub_apply (x : FVec Ideal S2x4x8192x256 .f32) (y : FVec Ideal S2x4x8192 .f32) (b : Fin 2) (h : Fin 4) (t : Fin 8192) (s : Fin 256) :
    (Host.exp (subf x (broadcastInDim S2x4x8192x256 ![0, 1, 2, 3] bcast_S2x4x8192x1_S2x4x8192x256_0_1_2_3
      (broadcastInDim S2x4x8192x1 ![0, 1, 2] bcast_S2x4x8192_S2x4x8192x1_0_1_2
        (maximumf (broadcastInDim S2x4x8192 ![] bcast_S_S2x4x8192 (constant S_ .f32 0xFF800000#32)) y)))) : FVec Ideal S2x4x8192x256 .f32) (ix4 b h t s)
      = Ideal.exp (x (ix4 b h t s) - y (ix3 b h t)) := by
  pointwise [ofBits_bot]
  rw [bot_sup_eq]

/-- The numerators of the softmax over the memory. -/
theorem exp_apply (b : Fin 2) (h : Fin 4) (t : Fin 8192) (s : Fin 256) :
    expBuf W (ix4 b h t s) = Ideal.exp (logitBuf W (ix4 b h t s) - Finset.univ.fold max ⊥ fun s => logitBuf W (ix4 b h t s)) := by
  rw [expBuf_eq, exp_sub_apply, maxBuf_apply]

/-- The memory's attention, the heads side by side. -/
theorem memo_apply (E : Early W A) {x : Fin 256 → EReal} (b : Fin 2) (t : Fin 8192) (j : Fin 512)
    (hx : ∀ s, expBuf W (ix4 b ⟨j.val / 128, by omega⟩ t s) = x s) :
    (after hostOps0_5 W (Proc.devRef .tc main_v211) : FVec Ideal S2x8192x512 .f32) (ix3 b t j)
      = ∑ s, Ideal.div (x s) (∑ s, x s) * A.mv b s j := by
  after_reads_simp [expBuf_36, expBuf_39]
  clean_types
  pointwise
  refine Finset.sum_congr rfl fun s _ => ?_
  have e := E.mv b ⟨j.val / 128, by omega⟩ s ⟨j.val % 128, by omega⟩
  rw [e]
  have hj : (⟨j.val / 128 * 128 + j.val % 128, by omega⟩ : Fin 512) = j := Fin.ext (by simp only; omega)
  simp only [hx]
  exact congrArg (fun z => Ideal.div (x s) (∑ s, x s) * A.mv b s z) hj

/-- The layer's output. -/
theorem y_apply {x : Fin 1024 → EReal} {p g : Fin 512 → EReal} (b : Fin 2) (t : Fin 8192) (d : Fin 1024)
    (hx : ∀ j, (W (Proc.devRef .tc main_v176) : FVec Ideal S2x8192x1024 .f32) (ix3 b t j) = x j)
    (hp : ∀ j, (W (Proc.devRef .tc main_v211) : FVec Ideal S2x8192x512 .f32) (ix3 b t j) = p j)
    (hg : ∀ j, (W (Proc.devRef .tc main_v213) : FVec Ideal S2x8192x512 .f32) (ix3 b t j) = g j) :
    (after hostOps0_7 W (Proc.devRef .tc main_v219) : FVec Ideal S2x8192x1024 .f32) (ix3 b t d)
      = (args W).x b t d + ∑ j : Fin 1536, (if h : j.val < 1024 then x ⟨j.val, h⟩ else p ⟨j.val - 1024, by omega⟩ * g ⟨j.val - 1024, by omega⟩) * (args W).wout j d := by
  after_reads_at
  have e1 : ∀ j : Fin 1024, (upto hostOps0_7 W 1 (Proc.devRef .tc main_v176) : FVec Ideal S2x8192x1024 .f32) (ix3 b t j) = x j := by
    intro j
    after_reads_simp
    exact hx j
  have e2 : ∀ j : Fin 512, (upto hostOps0_7 W 1 (Proc.devRef .tc main_v214) : FVec Ideal S2x8192x512 .f32) (ix3 b t j) = p j * g j := by
    intro j
    have h1 := hp j
    have h2 := hg j
    rw [← h1, ← h2]
    after_reads_at
  refine congrArg₂ (· + ·) rfl (congrArg₂ (· + ·) (Finset.sum_congr rfl fun j _ => ?_) (Finset.sum_congr rfl fun j _ => ?_))
  · have := e1 j
    rw [this]; rfl
  · have := e2 j
    rw [this]; rfl

/-- The first cast weight. -/
theorem cast0_apply (i : Fin 1024) (j : Fin 3072) :
    (after hostOps0_7 W (Proc.devRef .tc main_v221) : FVec Ideal S1024x3072 .bf16) (ix2 i j)
      = (W (Proc.devRef .tc main_arg9) : FVec Ideal S1x1024x3072 .f32) (ix3 0 i j) := by
  after_reads_at

/-- The second cast weight. -/
theorem cast1_apply (i : Fin 1536) (j : Fin 1024) :
    (after hostOps0_7 W (Proc.devRef .tc main_v223) : FVec Ideal S1536x1024 .bf16) (ix2 i j)
      = (W (Proc.devRef .tc main_arg10) : FVec Ideal S1x1536x1024 .f32) (ix3 0 i j) := by
  after_reads_at

/-- The third cast weight. -/
theorem cast2_apply (i : Fin 1024) (j : Fin 2048) :
    (after hostOps0_7 W (Proc.devRef .tc main_v224) : FVec Ideal S1024x2048 .bf16) (ix2 i j)
      = (W (Proc.devRef .tc main_arg11) : FVec Ideal S1024x2048 .f32) (ix2 i j) := by
  after_reads_at

end Cert.Layer.Ref
-- ==== Proof.Ref4.lean ====
module

public import proofs.«01_k».proof.Proof.Ref3

@[expose] public section

/-!
# What the reference computes

The operations after the loop, put together: the layer's output and the three cast weights.
-/

open Idealize.ShloMosaic Idealize.ShloMosaic.TcCoe Idealize.ShloMosaic.StableHlo
open Cert.ReferenceIdeal Cert.ReferenceIdeal.Gen Cert.ReferenceIdeal.Value Cert.Layer.Body

set_option maxRecDepth 16384
set_option maxHeartbeats 1000000

noncomputable section

namespace Cert.Layer.Ref

variable (m : (ℓ : Loc nD τ sig) → Buf (Elt Ideal) ℓ) (c : Dev nD)

/-- What the operations of `hostOps0_3` write, in order. -/
abbrev written3 : List (Ref sig .tc) := [main_v143, main_cst_17, main_v144, main_v145, main_v146, main_v147, main_v148, main_v149, main_v150, main_v151, main_v152, main_v153, main_v154, main_v155, main_v156, main_v157, main_v158, main_v159, main_cst_18, main_v160, main_v161, main_cst_19, main_v162, main_v163, main_cst_20, main_v164, main_v165, main_v166, main_v167, main_v168, main_v169, main_v170, main_v171, main_v172, main_v173, main_v174]
theorem writes3 : (hostOps0_3 : List (HloOp τ sig (Elt Ideal))).Forall fun op => op.writes ⊆ (written3.map (Proc.devRef (τ := τ) .tc)).toFinset :=
  forall_writes_sub_of_map rfl

/-- What the operations of `hostOps0_4` write, in order. -/
abbrev written4 : List (Ref sig .tc) := [main_call3_v0, main_call3_v1, main_call3_cst, main_call3_v2, main_call3_v3, main_call3_cst_0, main_call3_v4, main_call3_v5, main_v175]
theorem writes4 : (hostOps0_4 : List (HloOp τ sig (Elt Ideal))).Forall fun op => op.writes ⊆ (written4.map (Proc.devRef (τ := τ) .tc)).toFinset :=
  forall_writes_sub_of_map rfl

/-- What the operations of `hostOps0_5` write, in order. -/
abbrev written5 : List (Ref sig .tc) := [main_v176, main_v177, main_v178, main_v179, main_v180, main_v181, main_v182, main_cst_21, main_v183, main_v184, main_cst_22, main_v185, main_v186, main_cst_23, main_v187, main_v188, main_v189, main_v190, main_v191, main_v192, main_v193, main_v194, main_v195, main_cst_24, main_v196, main_v197, main_cst_25, main_v198, main_cst_26, main_v199, main_v200, main_v201, main_v202, main_v203, main_v204, main_cst_27, main_v205, main_v206, main_v207, main_v208, main_v209, main_v210, main_v211, main_v212]
theorem writes5 : (hostOps0_5 : List (HloOp τ sig (Elt Ideal))).Forall fun op => op.writes ⊆ (written5.map (Proc.devRef (τ := τ) .tc)).toFinset :=
  forall_writes_sub_of_map rfl

/-- What the operations of `hostOps0_6` write, in order. -/
abbrev written6 : List (Ref sig .tc) := [main_call4_v0, main_call4_v1, main_call4_cst, main_call4_v2, main_call4_v3, main_call4_cst_0, main_call4_v4, main_call4_v5, main_v213]
theorem writes6 : (hostOps0_6 : List (HloOp τ sig (Elt Ideal))).Forall fun op => op.writes ⊆ (written6.map (Proc.devRef (τ := τ) .tc)).toFinset :=
  forall_writes_sub_of_map rfl

/-- The buffers when the loop is done. -/
def Done : Valuation τ sig (Elt Ideal) := after condOps (atK m 64 c)

/-- The loop keeps the buffers that neither its condition nor its body writes. -/
theorem done_keeps (r : Ref sig .tc) (hc : r ∉ condOps_W) (h0 : r ∉ while0Ops0_W) (h1 : r ∉ while0Ops0_1_W) (h2 : r ∉ while0Ops0_2_W)
    (h3 : r ∉ while0Ops0_3_W) : Done m c (Proc.devRef .tc r) = after hostOps0_2 (after hostOps0_1 (after hostOps0 (V0 m c))) (Proc.devRef .tc r) := by
  unfold Done
  rw [after_of_writes_sub _ _ condOps_writes hc, loop_keeps m c r hc h0 h1 h2 h3 64]
  rfl

/-- What the operations after the loop read of the ones before it. -/
theorem early_done : Early (Done m c) (args (V0 m c)) := by
  refine ((early2 m c).after _ hostOps0_2_writes kept2).mono fun r hr => ?_
  have hc : ∀ r ∈ keptRefs, r ∉ condOps_W := by decide
  have h0 : ∀ r ∈ keptRefs, r ∉ while0Ops0_W := by decide
  have h1 : ∀ r ∈ keptRefs, r ∉ while0Ops0_1_W := by decide
  have h2 : ∀ r ∈ keptRefs, r ∉ while0Ops0_2_W := by decide
  have h3 : ∀ r ∈ keptRefs, r ∉ while0Ops0_3_W := by decide
  exact done_keeps m c r (hc r hr) (h0 r hr) (h1 r hr) (h2 r hr) (h3 r hr)

/-- The retention. -/
theorem ret_apply (F : (args (V0 m c)).Finite) (b : Fin 2) (h : Fin 4) (t : Fin 8192) (e : Fin 256) :
    retBuf (Done m c) (ix4 b h t e) = (args (V0 m c)).ret b h t e := by
  have hi := (congrFun (done_keeps m c main_v122 (by decide) (by decide) (by decide) (by decide) (by decide)) _).trans
    (intra_apply (early2 m c) (decay_masked (V0 m c)) b h ⟨t.val / 128, by omega⟩ ⟨t.val % 128, by omega⟩ e)
  have hS : ∀ d, (Done m c (Proc.devRef .tc main_v142_4) : FVec Ideal S64x2x4x128x256 .f32) (ix5 ⟨t.val / 128, by omega⟩ b h d e)
      = (args (V0 m c)).st b h (128 * (t.val / 128)) d e := by
    intro d
    unfold Done
    rw [after_of_writes_sub _ _ condOps_writes (show main_v142_4 ∉ condOps_W by decide)]
    exact (loop_state m c F 64 le_rfl).2 ⟨t.val / 128, by omega⟩ b h d e (by simp only; omega)
  refine (retBuf_chunk (early_done m c) b h t e hi hS).trans ?_
  unfold Args.ret Args.st
  have ht : 128 * (t.val / 128) + t.val % 128 = t.val := by omega
  have := chunk_out (gamma h) ((args (V0 m c)).qR b h) ((args (V0 m c)).kR b h) ((args (V0 m c)).vR b h) (128 * (t.val / 128)) 128
    ⟨t.val % 128, by omega⟩ e
  simp only [ht] at this
  rw [← this]
  refine congrArg₂ (· + ·) (Finset.sum_congr rfl fun s _ => ?_) (congrArg₂ (· * ·) (Finset.sum_congr rfl fun d _ => ?_) rfl)
  · rw [F.vR_eq b h (tk ⟨t.val / 128, by omega⟩ s) (128 * (t.val / 128) + s.val) (by simp only [tk]; omega)]
    refine congrArg₂ (· * ·) (congrArg₂ (· * ·) (Finset.sum_congr rfl fun d _ => ?_) rfl) rfl
    rw [F.kR_eq b h (tk ⟨t.val / 128, by omega⟩ s) (128 * (t.val / 128) + s.val) (by simp only [tk]; omega), F.qR_eq b h t t.val rfl,
      show tk ⟨t.val / 128, by omega⟩ ⟨t.val % 128, by omega⟩ = t from Fin.ext (by simp only [tk]; omega)]
  · rw [F.qR_eq b h t t.val rfl]

/-- The softmax's numerators over the memory. -/
theorem exp_memory {W : Valuation τ sig (Elt Ideal)} {A : Args} (E : Early W A) (b : Fin 2) (h : Fin 4) (t : Fin 8192) (s : Fin 256) :
    expBuf W (ix4 b h t s) = memExp (fun d => A.u b t ⟨3072 + h.val * 128 + d.val, by omega⟩) A.gq
      (fun d m => A.kt b ⟨h.val * 128 + d.val, by omega⟩ m) s := by
  rw [exp_apply]
  simp only [logit_apply E]
  rfl

/-- The memory's attention, the heads side by side. -/
theorem memo_read {W : Valuation τ sig (Elt Ideal)} {A : Args} (E : Early W A) (F : A.Finite) (b : Fin 2) (t : Fin 8192) (j : Fin 512) :
    (after hostOps0_5 W (Proc.devRef .tc main_v211) : FVec Ideal S2x8192x512 .f32) (ix3 b t j)
      = A.memo b ⟨j.val / 128, by omega⟩ t ⟨j.val % 128, by omega⟩ := by
  refine (memo_apply E b t j (fun s => exp_memory E b ⟨j.val / 128, by omega⟩ t s)).trans ?_
  unfold Args.memo
  rw [memory_eq (fun _ => F.u b t _) F.gq (fun _ _ => F.kt b _ _)]
  have hj : (⟨j.val / 128 * 128 + j.val % 128, by omega⟩ : Fin 512) = j := Fin.ext (by simp only; omega)
  simp only [hj]

/-- The buffers after each stretch of operations behind the loop. -/
def At3 : Valuation τ sig (Elt Ideal) := after hostOps0_3 (Done m c)
def At4 : Valuation τ sig (Elt Ideal) := after hostOps0_4 (At3 m c)
def At5 : Valuation τ sig (Elt Ideal) := after hostOps0_5 (At4 m c)
def At6 : Valuation τ sig (Elt Ideal) := after hostOps0_6 (At5 m c)

theorem early3 : Early (At3 m c) (args (V0 m c)) := (early_done m c).after _ writes3 (by decide)
theorem early4 : Early (At4 m c) (args (V0 m c)) := (early3 m c).after _ writes4 (by decide)
theorem early5 : Early (At5 m c) (args (V0 m c)) := (early4 m c).after _ writes5 (by decide)
theorem early6 : Early (At6 m c) (args (V0 m c)) := (early5 m c).after _ writes6 (by decide)

/-- The gated retention, the heads side by side. -/
theorem ret_gated (F : (args (V0 m c)).Finite) (b : Fin 2) (t : Fin 8192) (j : Fin 1024) :
    (At6 m c (Proc.devRef .tc main_v176) : FVec Ideal S2x8192x1024 .f32) (ix3 b t j)
      = (args (V0 m c)).retGated b ⟨j.val / 256, by omega⟩ t ⟨j.val % 256, by omega⟩ := by
  have e1 : (At4 m c (Proc.devRef .tc main_v173) : FVec Ideal S2x8192x1024 .f32) (ix3 b t j)
      = rms 0x43800000#32 ((args (V0 m c)).ret b ⟨j.val / 256, by omega⟩ t) (args (V0 m c)).gret ⟨j.val % 256, by omega⟩ := by
    unfold At4
    rw [after_of_writes_sub _ _ writes4 (show main_v173 ∉ written4 by decide)]
    exact normed_apply (early_done m c) (ret_apply m c F) b t j
  have e2 : (At4 m c (Proc.devRef .tc main_v175) : FVec Ideal S2x8192x1024 .f32) (ix3 b t j) = silu ((args (V0 m c)).u b t ⟨2048 + j.val, by omega⟩) :=
    gate_apply b t j (gate_in_apply (early_done m c) b t j)
  unfold At6
  rw [after_of_writes_sub _ _ writes6 (show main_v176 ∉ written6 by decide)]
  refine (ret_gated_apply b t j e1 e2).trans ?_
  unfold Args.retGated
  congr 2
  refine congrArg _ (Fin.ext ?_)
  simp only
  omega

/-- The memory's attention before its gate. -/
theorem memo_at6 (F : (args (V0 m c)).Finite) (b : Fin 2) (t : Fin 8192) (j : Fin 512) :
    (At6 m c (Proc.devRef .tc main_v211) : FVec Ideal S2x8192x512 .f32) (ix3 b t j)
      = (args (V0 m c)).memo b ⟨j.val / 128, by omega⟩ t ⟨j.val % 128, by omega⟩ := by
  unfold At6
  rw [after_of_writes_sub _ _ writes6 (show main_v211 ∉ written6 by decide)]
  exact memo_read (early4 m c) F b t j

/-- The memory's gate. -/
theorem mem_gate_at6 (b : Fin 2) (t : Fin 8192) (j : Fin 512) :
    (At6 m c (Proc.devRef .tc main_v213) : FVec Ideal S2x8192x512 .f32) (ix3 b t j) = silu ((args (V0 m c)).u b t ⟨3584 + j.val, by omega⟩) :=
  mem_gate_apply b t j (mem_gate_in_apply (early4 m c) b t j)

end Cert.Layer.Ref
-- ==== Proof.Ref5.lean ====
module

public import proofs.«01_k».proof.Proof.Ref4

@[expose] public section

/-!
# What the reference computes

The operations after the loop, put together: the reference's results, the layer's output and the three cast weights.
-/

open Idealize.ShloMosaic Idealize.ShloMosaic.TcCoe Idealize.ShloMosaic.StableHlo
open Cert.ReferenceIdeal Cert.ReferenceIdeal.Gen Cert.ReferenceIdeal.Value Cert.Layer.Body

set_option maxRecDepth 16384
set_option maxHeartbeats 1000000

noncomputable section

namespace Cert.Layer.Ref

variable (m : (ℓ : Loc nD τ sig) → Buf (Elt Ideal) ℓ) (c : Dev nD)

/-- The buffers at the end: the last stretch of operations, behind the others. -/
theorem final_eq : finalContents condOps preI bodyI postI 64 m c = after hostOps0_7 (At6 m c) := by
  unfold At6 At5 At4 At3 Done finalContents
  simp only [afterL_cons, afterL_nil]

/-- What the operations behind the loop leave of a kept buffer. -/
theorem arg_at6 (r : Ref sig .tc) (hr : r ∈ keptRefs) (hk : ∀ V : Valuation τ sig (Elt Ideal), after hostOps0 V (Proc.devRef .tc r) = V (Proc.devRef .tc r)) :
    At6 m c (Proc.devRef .tc r) = m (c, Proc.devRef .tc r) := by
  have k1 : ∀ r ∈ keptRefs, r ∉ written3 := by decide
  have k2 : ∀ r ∈ keptRefs, r ∉ written4 := by decide
  have k3 : ∀ r ∈ keptRefs, r ∉ written5 := by decide
  have k4 : ∀ r ∈ keptRefs, r ∉ written6 := by decide
  have hc : ∀ r ∈ keptRefs, r ∉ condOps_W := by decide
  have h0 : ∀ r ∈ keptRefs, r ∉ while0Ops0_W := by decide
  have h1 : ∀ r ∈ keptRefs, r ∉ while0Ops0_1_W := by decide
  have h2 : ∀ r ∈ keptRefs, r ∉ while0Ops0_2_W := by decide
  have h3 : ∀ r ∈ keptRefs, r ∉ while0Ops0_3_W := by decide
  unfold At6 At5 At4 At3
  rw [after_of_writes_sub _ _ writes6 (k4 r hr), after_of_writes_sub _ _ writes5 (k3 r hr),
    after_of_writes_sub _ _ writes4 (k2 r hr), after_of_writes_sub _ _ writes3 (k1 r hr),
    done_keeps m c r (hc r hr) (h0 r hr) (h1 r hr) (h2 r hr) (h3 r hr),
    after_of_writes_sub _ _ hostOps0_2_writes (kept2 r hr), after_of_writes_sub _ _ hostOps0_1_writes (kept1 r hr), hk]

/-- The mixers' outputs, lane by lane, give the layer's output. -/
theorem y_mixed (A : Args) (b : Fin 2) (t : Fin 8192) (d : Fin 1024) :
    A.x b t d + ∑ j : Fin 1536, (if h : j.val < 1024 then A.retGated b ⟨j.val / 256, by omega⟩ t ⟨j.val % 256, by omega⟩
      else A.memo b ⟨(j.val - 1024) / 128, by omega⟩ t ⟨(j.val - 1024) % 128, by omega⟩ * silu (A.u b t ⟨3584 + (j.val - 1024), by omega⟩)) * A.wout j d
      = A.y b t d := by
  unfold Args.y
  refine congrArg (A.x b t d + ·) (Finset.sum_congr rfl fun j _ => congrArg (· * A.wout j d) ?_)
  unfold Args.mixed
  by_cases hj : j.val < 1024
  · rw [dif_pos hj, dif_pos hj]
  · rw [dif_neg hj, dif_neg hj]
    unfold Args.memGated
    refine congrArg (fun k => _ * silu (A.u b t k)) (Fin.ext ?_)
    simp only
    omega

attribute [local irreducible] At3 At4 At5 At6 Done

/-- The reference's first result is the layer's output. -/
theorem y_result (F : (args (V0 m c)).Finite) (b : Fin 2) (t : Fin 8192) (d : Fin 1024) :
    (finalContents condOps preI bodyI postI 64 m c (Proc.devRef .tc main_v219) : FVec Ideal S2x8192x1024 .f32) (ix3 b t d)
      = (args (V0 m c)).y b t d := by
  rw [final_eq]
  have e := y_apply (W := At6 m c) b t d (ret_gated m c F b t) (memo_at6 m c F b t) (mem_gate_at6 m c b t)
  rw [(early6 m c).args] at e
  exact e.trans (y_mixed _ b t d)

/-- The reference's second result is the first weight. -/
theorem cast0_result (i : Fin 1024) (j : Fin 3072) :
    (finalContents condOps preI bodyI postI 64 m c (Proc.devRef .tc main_v221) : FVec Ideal S1024x3072 .bf16) (ix2 i j)
      = (m (c, Proc.devRef .tc main_arg9) : FVec Ideal S1x1024x3072 .f32) (ix3 0 i j) := by
  rw [final_eq]
  exact (cast0_apply i j).trans (congrFun (arg_at6 m c main_arg9 (by decide) (fun V => after_of_writes_sub _ _ hostOps0_writes (by decide))) _)

/-- The reference's third result is the second weight. -/
theorem cast1_result (i : Fin 1536) (j : Fin 1024) :
    (finalContents condOps preI bodyI postI 64 m c (Proc.devRef .tc main_v223) : FVec Ideal S1536x1024 .bf16) (ix2 i j)
      = (m (c, Proc.devRef .tc main_arg10) : FVec Ideal S1x1536x1024 .f32) (ix3 0 i j) := by
  rw [final_eq]
  exact (cast1_apply i j).trans (congrFun (arg_at6 m c main_arg10 (by decide) (fun V => after_of_writes_sub _ _ hostOps0_writes (by decide))) _)

/-- The reference's fourth result is the third weight. -/
theorem cast2_result (i : Fin 1024) (j : Fin 2048) :
    (finalContents condOps preI bodyI postI 64 m c (Proc.devRef .tc main_v224) : FVec Ideal S1024x2048 .bf16) (ix2 i j)
      = (m (c, Proc.devRef .tc main_arg11) : FVec Ideal S1024x2048 .f32) (ix2 i j) := by
  rw [final_eq]
  exact (cast2_apply i j).trans (congrFun (arg_at6 m c main_arg11 (by decide) (fun V => after_of_writes_sub _ _ hostOps0_writes (by decide))) _)

end Cert.Layer.Ref
-- ==== Proof.Pre.lean ====
module

public import proofs.«01_k».proof.Proof.Points
public import proofs.«01_k».proof.Proof.Finite
public import proofs.«01_k».proof.Defs
public import proofs.«01_k».proof.Proof.Gen.Pre_all_finite
public import Idealize.ShloMosaic.Lib.ReduceAll
public import Idealize.ShloMosaic.Lib.Affine

@[expose] public section

/-!
# The precondition

Arrays whose entries are all of finite absolute value are real, so the layer's arguments are.
-/

open Idealize.ShloMosaic Idealize.ShloMosaic.TcCoe

set_option maxRecDepth 16384

noncomputable section

namespace Cert.Layer.Pre

/-- A value whose absolute value is below infinity is real. -/
theorem isReal_of_abs {x : EReal} (h : Ideal.cmp .olt (max x (-x)) (Ideal.ofBits .f32 0x7F800000#32) = 1#1) : IsReal x := by
  have top : Ideal.ofBits .f32 0x7F800000#32 = (⊤ : EReal) := by simp [Ideal.ofBits, Ideal.ieee]
  rw [top] at h
  induction x using EReal.rec with
  | bot => simp [Ideal.cmp] at h
  | coe r => exact ⟨r, rfl⟩
  | top => simp [Ideal.cmp] at h

/-- The precondition's test of one array, `|x| < ∞` at every index, says that its entries are real. -/
theorem real_of_all {s u t : Shape} {axes : List (Fin s.rank)} [Subsingleton t.Idx] (x : FVec Ideal s .f32) (w : FVec Ideal s .f32) (init : u.Idx → BitVec 1)
    (h : s.ReducesTo axes t) (hu : 0 < u.numel) (j : t.Idx) (hw : ∀ i, w i = Ideal.ofBits .f32 0x7F800000#32)
    (e : Host.reduce IntOp.andi (cmpf .olt (Host.absf x) w) init h hu j = 1#1) (i : s.Idx) : IsReal (x i) := by
  have := Host.reduce_andi_all _ init h hu j e i
  refine isReal_of_abs ?_
  rw [← hw i]
  exact this

/-- Of a conjunction of two tests that holds, both hold. -/
theorem and_split {s : Shape} {p q : IVec s 1} {j : s.Idx} (h : andi p q j = 1#1) : p j = 1#1 ∧ q j = 1#1 := IntOp.andi_eq_one.1 h

/-- The rotary frequencies are real. -/
theorem isReal_invFreq (i : Fin 64) : IsReal (invFreq i) := by
  have h128 : IsReal (Ideal.ofBits .f32 0x43000000#32) := ofBits_128 ▸ isReal_coe _
  have h2 : Ideal.ofBits .f32 0x40000000#32 = ((2 : ℝ) : EReal) := by simp [Ideal.ofBits, Ideal.ieee, -EReal.coe_mul]; norm_num
  have h10000 : Ideal.ofBits .f32 0x461C4000#32 = ((10000 : ℝ) : EReal) := by simp [Ideal.ofBits, Ideal.ieee, -EReal.coe_mul]; norm_num
  refine IsReal.pow (h10000 ▸ isReal_coe _) (IsReal.div (IsReal.mul (IsReal.neg ?_) (h2 ▸ isReal_coe _)) h128 ?_)
  · exact ⟨_, rfl⟩
  · rw [ofBits_128]
    exact_mod_cast (by norm_num : (128 : ℝ) ≠ 0)

/-- Under the precondition, the layer's arguments are real. -/
theorem finite (m : (ℓ : Loc Cert.KernelIdeal.nD Cert.KernelIdeal.τ Cert.KernelIdeal.sig) → Buf (Elt Ideal) ℓ)
    (hm : haveI := Cert.Pre_all_finite.Gen.facts; Cert.Pre_KernelIdeal_all_finite m) (c : Dev Cert.KernelIdeal.nD) : (Body.args m c).Finite := by
  have h := congrFun (hm c) ix0
  unfold Cert.Pre_all_finite.fn Cert.Pre_all_finite.fn_part1 at h
  obtain ⟨h, hgq⟩ := and_split h
  obtain ⟨h, hkt⟩ := and_split h
  obtain ⟨h, hwin⟩ := and_split h
  obtain ⟨hx, hgn⟩ := and_split h
  exact
    { x := fun b t d => real_of_all _ _ _ _ _ _ (fun _ => rfl) hx (ix3 b t d)
      pos := fun b t => ⟨_, rfl⟩
      gn := fun d => real_of_all _ _ _ _ _ _ (fun _ => rfl) hgn (ix2 0 d)
      win := fun d j => real_of_all _ _ _ _ _ _ (fun _ => rfl) hwin (ix3 0 d j)
      invf := isReal_invFreq
      kt := fun b d k => real_of_all _ _ _ _ _ _ (fun _ => rfl) hkt (ix4 0 b d k)
      gq := fun d => real_of_all _ _ _ _ _ _ (fun _ => rfl) hgq (ix2 0 d) }

end Cert.Layer.Pre

end
-- ==== Proof.Main.lean ====
module

public import proofs.«01_k».proof.Proof.Fold
public import proofs.«01_k».proof.Proof.Ref5
public import proofs.«01_k».proof.Proof.Pre
public import Idealize.ShloMosaic.Lib.Quiescent

@[expose] public section

/-!
# The claims

The reference ends, its arguments and its counters untouched; from memories agreeing on the arguments, the kernel and
the reference end with the same results.
-/

open Idealize.ShloMosaic Idealize.ShloMosaic.TcCoe Idealize.ShloMosaic.StableHlo Idealize.SL.Sem

set_option maxRecDepth 16384
set_option maxHeartbeats 1000000

noncomputable section

namespace Cert.Layer.Ref

open Cert.ReferenceIdeal Cert.ReferenceIdeal.Gen Cert.ReferenceIdeal.Value

/-- The reference's arguments. -/
abbrev argRefs : List (Ref sig .tc) :=
  [main_arg0, main_arg1, main_arg2, main_arg3, main_arg4, main_arg5, main_arg6, main_arg7, main_arg8, main_arg9, main_arg10, main_arg11]

/-- What the operations of `hostOps0_7` write, in order. -/
abbrev written7 : List (Ref sig .tc) :=
  [main_v214, main_v215, main_v216, main_v217, main_v218, main_v219, main_v220, main_v221, main_v222, main_v223, main_v224]

/-- They write nothing else. -/
theorem writes7 : (hostOps0_7 : List (HloOp τ sig (Elt Ideal))).Forall fun op => op.writes ⊆ (written7.map (Proc.devRef (τ := τ) .tc)).toFinset :=
  forall_writes_sub_of_map rfl

/-- The reference leaves its arguments as they were. -/
theorem arg_final (m : (ℓ : Loc nD τ sig) → Buf (Elt Ideal) ℓ) (c : Dev nD) : ∀ r ∈ argRefs,
    finalContents condOps preI bodyI postI 64 m c (Proc.devRef .tc r) = m (c, Proc.devRef .tc r) := by
  have k0 : ∀ r ∈ argRefs, r ∉ hostOps0_W := by decide
  have k7 : ∀ r ∈ argRefs, r ∉ written7 := by decide
  have kk : ∀ r ∈ argRefs, r ∈ keptRefs := by decide
  intro r hr
  rw [final_eq, after_of_writes_sub _ _ writes7 (k7 r hr)]
  exact arg_at6 m c r (kk r hr) fun V => after_of_writes_sub _ _ hostOps0_writes (k0 r hr)

/-- The reference's run: every buffer at its final contents, the arguments kept. -/
theorem run_args (m : (ℓ : Loc nD τ sig) → Buf (Elt Ideal) ℓ) (g : Dev nD → PrngReg) :
    θ_run (defs (F := Ideal)) (onTc (τ := τ) (main (F := Ideal))) ⟨m, fun _ => 0, g⟩
      (fun r => ∀ c : Dev nD, (∀ b : Ref sig .tc, (Proc.devRef .tc b : DevRef τ sig).isScoped = false →
          r.2.mem ((c.tc : Thread nD τ).loc b) = finalContents condOps preI bodyI postI 64 m c (Proc.devRef .tc b))
        ∧ ∀ b ∈ argRefs, r.2.mem ((c.tc : Thread nD τ).loc b) = m ((c.tc : Thread nD τ).loc b)) :=
  (θ_run _ _ _).mono (fun r h c => ⟨h c, by
    have hs : ∀ b ∈ argRefs, (Proc.devRef .tc b : DevRef τ sig).isScoped = false := by decide
    exact fun b hb => (h c b (hs b hb)).trans (arg_final m c b hb)⟩) (run_fold m g)

/-- The reference's frame: it ends, the arguments kept, no counter left. -/
theorem frame (m : (ℓ : Loc nD τ sig) → Buf (Elt Ideal) ℓ) (g : Dev nD → PrngReg) :
    θ_run (defs (F := Ideal)) (onTc (τ := τ) (main (F := Ideal))) ⟨m, fun _ => 0, g⟩
      (fun r => (∀ c : Dev nD, ∀ b ∈ argRefs, r.2.mem ((c.tc : Thread nD τ).loc b) = m ((c.tc : Thread nD τ).loc b)) ∧ r.2.sem = fun _ => 0) :=
  (θ_run _ _ _).mono (fun r h => ⟨fun c => (h c).2, sem_eq_zero_of_no_sems (by decide) _⟩) (run_args m g)

end Cert.Layer.Ref

namespace Cert.Layer.Main

/-- From memories agreeing on the arguments, both programs find the same layer's arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Ref.args (Ref.V0 m' c) = Body.args m c := by
  unfold Body.args
  rw [← h0, ← h1, ← h2, ← h3, ← h4, ← h5, ← h6, ← h7, ← h8]
  rfl

/-- Each named constant's value is the one the kernel's ideal copy reads. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

attribute [local irreducible] Cert.KernelIdeal.Value.G13 Cert.KernelIdeal.Value.G14 Cert.KernelIdeal.Value.G15 Cert.KernelIdeal.Value.G16

open Cert.KernelIdeal.Value in
/-- The kernel's results and the reference's, from memories agreeing on the arguments, are the same. -/
theorem algebraic :
    haveI := Cert.KernelIdeal.Gen.facts; haveI := Cert.ReferenceIdeal.Gen.facts; haveI := Cert.Pre_all_finite.Gen.facts
    Cert.algebraic_KernelIdeal_ReferenceIdeal_pre_all_finite := by
  intro m g m' g' hm hargs
  refine ⟨fun c => G16 m c, fun c => G13 m c, fun c => G14 m c, fun c => G15 m c, ?_, ?_⟩
  · refine (θ_run _ _ _).mono (fun r h c => ?_) (run m g)
    obtain ⟨r0, r1, r2, r3, ha⟩ := h c
    exact ⟨r3, r0, r1, r2, ha⟩
  · refine (θ_run _ _ _).mono (fun r h c => ?_) (Ref.run_args m' g')
    obtain ⟨hb, ha⟩ := h c
    obtain ⟨a0, a1, a2, a3, a4, a5, a6, a7, a8, a9, a10, a11⟩ := hargs c
    have hA := args_eq m m' c a0 a1 a2 a3 a4 a5 a6 a7 a8
    have F := Pre.finite m hm c
    refine ⟨(hb _ (by decide)).trans (funext fun i => ?_), (hb _ (by decide)).trans (funext fun i => ?_), (hb _ (by decide)).trans (funext fun i => ?_),
      (hb _ (by decide)).trans (funext fun i => ?_), ha _ (by decide), ha _ (by decide), ha _ (by decide), ha _ (by decide), ha _ (by decide), ha _ (by decide),
      ha _ (by decide), ha _ (by decide), ha _ (by decide), ha _ (by decide), ha _ (by decide), ha _ (by decide)⟩
    · obtain ⟨b, t, d, rfl⟩ : ∃ b t d, i = ix3 b t d := ⟨i 0, i 1, i 2, (eq_ix3 i)⟩
      exact ((Ref.y_result m' c (hA ▸ F) b t d).trans (congrArg (fun A : Args => A.y b t d) hA)).trans (Body.G16_eq m c F b t d).symm
    · obtain ⟨b, t, rfl⟩ : ∃ b t, i = ix2 b t := ⟨i 0, i 1, (eq_ix2 i)⟩
      exact ((Ref.cast0_result m' c b t).trans (congrFun a9 _)).trans (Body.G13_eq m c b t).symm
    · obtain ⟨b, t, rfl⟩ : ∃ b t, i = ix2 b t := ⟨i 0, i 1, (eq_ix2 i)⟩
      exact ((Ref.cast1_result m' c b t).trans (congrFun a10 _)).trans (Body.G14_eq m c b t).symm
    · obtain ⟨b, t, rfl⟩ : ∃ b t, i = ix2 b t := ⟨i 0, i 1, (eq_ix2 i)⟩
      exact ((Ref.cast2_result m' c b t).trans (congrFun a11 _)).trans (Body.G15_eq m c b t).symm

end Cert.Layer.Main

end
-- ==== Proof.ProjSpec.lean ====
module

public import proofs.«01_k».proof.Proof.Finite

@[expose] public section

/-!
# The second layer's projections, row by row

What the second call computes, as functions of one token's row over the extended reals: the keys and values shared by
the layer's heads, the scaled queries, the gate, and the gated attention to the memory.
-/

open Idealize.ShloMosaic

noncomputable section

namespace Cert.Proj

open Cert.Layer

/-- The call's arguments, read entry by entry. -/
structure Args where
  x : Fin 2 → Fin 8192 → Fin 1024 → EReal
  gkv : Fin 1024 → EReal
  gn : Fin 1024 → EReal
  wkv : Fin 1024 → Fin 2048 → EReal
  win : Fin 1024 → Fin 3072 → EReal
  kt : Fin 2 → Fin 512 → Fin 256 → EReal
  mv : Fin 2 → Fin 256 → Fin 512 → EReal
  gq : Fin 128 → EReal

namespace Args
variable (A : Args)

/-- The in-projection of token `t` of sequence `b`. -/
def u (b : Fin 2) (t : Fin 8192) : Fin 3072 → EReal := inProj 0x44800000#32 (A.x b t) A.gn A.win

/-- The projection of token `t` of sequence `b` to keys and values. -/
def kv (b : Fin 2) (t : Fin 8192) : Fin 2048 → EReal := inProj 0x44800000#32 (A.x b t) A.gkv A.wkv

/-- The scaled queries. -/
def q (b : Fin 2) (t : Fin 8192) (j : Fin 1024) : EReal := A.u b t ⟨j.val, by omega⟩ * Ideal.ofBits .f32 0x3E0293EE#32

/-- The keys. -/
def k (b : Fin 2) (t : Fin 8192) (j : Fin 1024) : EReal := A.kv b t ⟨j.val, by omega⟩

/-- The values. -/
def v (b : Fin 2) (t : Fin 8192) (j : Fin 1024) : EReal := A.kv b t ⟨1024 + j.val, by omega⟩

/-- The gate. -/
def gate (b : Fin 2) (t : Fin 8192) (j : Fin 1024) : EReal := silu (A.u b t ⟨1024 + j.val, by omega⟩)

/-- The lanes of memory head `h`. -/
def memQ (b : Fin 2) (t : Fin 8192) (h : Fin 4) (d : Fin 128) : EReal := A.u b t ⟨2048 + (128 * h.val + d.val), by omega⟩

/-- The memory's keys of head `h`. -/
def memK (b : Fin 2) (h : Fin 4) (d : Fin 128) (s : Fin 256) : EReal := A.kt b ⟨128 * h.val + d.val, by omega⟩ s

/-- The memory's values of head `h`. -/
def memV (b : Fin 2) (h : Fin 4) (s : Fin 256) (e : Fin 128) : EReal := A.mv b s ⟨128 * h.val + e.val, by omega⟩

/-- The gated attention of memory head `h`. -/
def head (b : Fin 2) (t : Fin 8192) (h : Fin 4) (e : Fin 128) : EReal :=
  memory (A.memQ b t h) A.gq (A.memK b h) (A.memV b h) e * silu (A.u b t ⟨2560 + (128 * h.val + e.val), by omega⟩)

/-- The gated attention to the memory, the heads side by side. -/
def mo (b : Fin 2) (t : Fin 8192) (j : Fin 512) : EReal :=
  A.head b t ⟨j.val / 128, by omega⟩ ⟨j.val % 128, by omega⟩

/-- Every argument the memory's logits depend on is real. -/
structure Finite : Prop where
  x : ∀ b t d, IsReal (A.x b t d)
  gn : ∀ d, IsReal (A.gn d)
  win : ∀ d j, IsReal (A.win d j)
  kt : ∀ b d s, IsReal (A.kt b d s)
  gq : ∀ d, IsReal (A.gq d)

variable {A}

/-- With real arguments the in-projection is real. -/
theorem Finite.u (H : A.Finite) (b : Fin 2) (t : Fin 8192) (j : Fin 3072) : IsReal (A.u b t j) :=
  isReal_inProj ⟨1024, by norm_num, ofBits_1024⟩ (H.x b t) H.gn H.win j

/-- With real arguments, the gated attention with each numerator divided on its own. -/
theorem Finite.head_eq (H : A.Finite) (b : Fin 2) (t : Fin 8192) (h : Fin 4) (e : Fin 128) :
    A.head b t h e = (∑ s, Ideal.div (memExp (A.memQ b t h) A.gq (A.memK b h) s)
      (∑ s, memExp (A.memQ b t h) A.gq (A.memK b h) s) * A.memV b h s e)
        * silu (A.u b t ⟨2560 + (128 * h.val + e.val), by omega⟩) := by
  unfold head
  rw [memory_eq (f := A.memQ b t h) (k := A.memK b h) (fun _ => H.u b t _) H.gq (fun _ _ => H.kt b _ _)]

end Args

end Cert.Proj

end
-- ==== Proof.ProjBody.lean ====
module

public import proofs.«01_k».proof.Proof.ProjSpec
public import proofs.«01_k».proof.Proof.Gen.Kernel2Ideal.Frame
public import Idealize.ShloMosaic.Lib.Pipeline.ValueKit
public import Idealize.ShloMosaic.Lib.Pointwise
public import Idealize.ShloMosaic.Lib.ValueIdx

@[expose] public section

/-!
# The projection kernel's body, entry by entry

One grid point works on 1024 rows. Here are the values it stores, as functions of the blocks it reads, each at an index.
-/

open Idealize.ShloMosaic Idealize.ShloMosaic.TcCoe
open Cert.Kernel2Ideal Cert.Kernel2Ideal.Gen

set_option maxRecDepth 16384

noncomputable section

namespace Cert.Proj.Body

open Cert.Layer

section
variable {F : FTy → Type} [FloatOps F] [Named F]

/-- Lanes `128 h …` of a slab of 512. -/
def lanes (u : FVec F S1024x512 .f32) (h : Fin 4) : FVec F S1024x128 .f32 :=
  extractStridedSlice S1024x128 ![0, 128 * h.val] u (by revert h; decide)

/-- A head's logits against the memory. -/
def logitsOf (f : FVec F S1024x128 .f32) (g : Vec F S1x1x128 .f32) (k : Vec F S1x1x128x256 .bf16) : FVec F S1024x256 .f32 :=
  mulf (matmul dot_S1024x128_S128x256_S1024x256_1_0_0_1_n_n none
    (truncf .bf16 (mulf (mulf f (broadcastTo S1024x128
      (rsqrt (addf (divf (shapeCast S1024x1 (multiReduction .add [1] S1024 (mulf f f) 0x00000000#32 reduces_S1024x128_S1024
        (.inl rfl) rfl) shapeCasts_S1024_S1024x1) (broadcast S1024x1 (Scalar.ofBits .f32 0x43000000#32)))
        (broadcast S1024x1 (Scalar.ofBits .f32 0x358637BD#32)))) broadcasts_S1024x1_S1024x128))
      (broadcastTo S1024x128 (shapeCast S1x128 g shapeCasts_S1x1x128_S1x128) broadcasts_S1x128_S1024x128)) bitsLt_bf16_f32)
    (shapeCast S128x256 k shapeCasts_S1x1x128x256_S128x256) (constant S1024x256 .f32 0x00000000#32))
    (broadcast S1024x256 (Scalar.ofBits .f32 0x3DB504F3#32))

/-- The exponentials of the logits less their row's maximum. -/
def expsOf (l : FVec F S1024x256 .f32) : FVec F S1024x256 .f32 :=
  exp (subf l (broadcastTo S1024x256 (shapeCast S1024x1 (multiReduction .maximumf [1] S1024 l 0xFF800000#32
    reduces_S1024x256_S1024 (.inl rfl) rfl) shapeCasts_S1024_S1024x1) broadcasts_S1024x1_S1024x256))

/-- The gate `y / (1 + e^{-y})` of a head's lanes. -/
def siluOf (y : FVec F S1024x128 .f32) : FVec F S1024x128 .f32 :=
  mulf y (divf (broadcast S1024x128 (Scalar.ofBits .f32 0x3F800000#32))
    (addf (broadcast S1024x128 (Scalar.ofBits .f32 0x3F800000#32))
      (exp (subf (broadcast S1024x128 (Scalar.ofBits .f32 0x00000000#32)) y))))

/-- A memory head's values, divided by the sum of the exponentials and gated. -/
def gatedOf (l : FVec F S1024x256 .f32) (v : Vec F S1x1x256x128 .bf16) (gate : FVec F S1024x128 .f32) :
    FVec F S1024x128 .bf16 :=
  truncf .bf16 (mulf (divf
    (matmul dot_S1024x256_S256x128_S1024x128_1_0_0_1_n_n none (truncf .bf16 (expsOf l) bitsLt_bf16_f32)
      (shapeCast S256x128 v shapeCasts_S1x1x256x128_S256x128) (constant S1024x128 .f32 0x00000000#32))
    (broadcastTo S1024x128 (shapeCast S1024x1 (multiReduction .add [1] S1024 (expsOf l) 0x00000000#32 reduces_S1024x256_S1024
      (.inl rfl) rfl) shapeCasts_S1024_S1024x1) broadcasts_S1024x1_S1024x128))
    (siluOf gate)) bitsLt_bf16_f32

/-- Head `h`, from the slabs of the in-projection for the memory and its gate. -/
def headOf (u gate : FVec F S1024x512 .f32) (x5 : Vec F S1x1x512x256 .bf16) (x6 : Vec F S1x1x256x512 .bf16) (x7 : Vec F S1x1x128 .f32)
    (h : Fin 4) : FVec F S1024x128 .bf16 :=
  gatedOf (logitsOf (lanes u h) (View.ld x7 r0_5)
      (View.ld x5 (Rect.unit ![0, 0, 128 * h.val, 0] S1x1x128x256.size (by revert h; decide))))
    (View.ld x6 (Rect.unit ![0, 0, 0, 128 * h.val] S1x1x256x128.size (by revert h; decide))) (lanes gate h)

/-- What the point stores of the attention to the memory: the heads side by side. -/
theorem out12_eq (x0 : Vec F S1x1024x1024 .f32) (x1 : Vec F S1x1024 .f32) (x2 : Vec F S1x1x1024 .f32) (x3 : Vec F S1024x2048 .bf16)
    (x4 : Vec F S1x1024x3072 .bf16) (x5 : Vec F S1x1x512x256 .bf16) (x6 : Vec F S1x1x256x512 .bf16) (x7 : Vec F S1x1x128 .f32) :
    out0_12 x0 x1 x2 x3 x4 x5 x6 x7 = View.canon [⟨r0_16, shapeCast S1x1024x512 (concatenate S1024x512 1
      [⟨S1024x128, headOf (k0_pay7 (View.ld x0 r0_0) (View.ld x2 r0_2) (View.ld x4 r0_3)) (k0_pay8 (View.ld x0 r0_0) (View.ld x2 r0_2) (View.ld x4 r0_4)) x5 x6 x7 0⟩,
       ⟨S1024x128, headOf (k0_pay7 (View.ld x0 r0_0) (View.ld x2 r0_2) (View.ld x4 r0_3)) (k0_pay8 (View.ld x0 r0_0) (View.ld x2 r0_2) (View.ld x4 r0_4)) x5 x6 x7 1⟩,
       ⟨S1024x128, headOf (k0_pay7 (View.ld x0 r0_0) (View.ld x2 r0_2) (View.ld x4 r0_3)) (k0_pay8 (View.ld x0 r0_0) (View.ld x2 r0_2) (View.ld x4 r0_4)) x5 x6 x7 2⟩,
       ⟨S1024x128, headOf (k0_pay7 (View.ld x0 r0_0) (View.ld x2 r0_2) (View.ld x4 r0_3)) (k0_pay8 (View.ld x0 r0_0) (View.ld x2 r0_2) (View.ld x4 r0_4)) x5 x6 x7 3⟩]
      concatenates_S1024x128_S1024x128_S1024x128_S1024x128_S1024x512_d1) shapeCasts_S1024x512_S1x1024x512⟩] := rfl

end

/-! ## At an index -/

theorem ofBits_bot : Ideal.ofBits .f32 0xFF800000#32 = ⊥ := by
  simp [Ideal.ofBits, Ideal.ieee]

theorem lanes_apply (u : FVec Ideal S1024x512 .f32) (h : Fin 4) (r : Fin 1024) (d : Fin 128) :
    lanes u h (ix2 r d) = u (ix2 r ⟨128 * h.val + d.val, by omega⟩) := by
  pointwise [lanes]

theorem logitsOf_apply (f : FVec Ideal S1024x128 .f32) (g : Vec Ideal S1x1x128 .f32) (k : Vec Ideal S1x1x128x256 .bf16) (r : Fin 1024) (s : Fin 256) :
    logitsOf f g k (ix2 r s) = memLogit (fun d => f (ix2 r d)) (fun d => g (ix3 0 0 d)) (fun d s => k (ix4 0 0 d s)) s := by
  pointwise [logitsOf, memLogit, rms]

theorem expsOf_apply (l : FVec Ideal S1024x256 .f32) (r : Fin 1024) (s : Fin 256) :
    expsOf l (ix2 r s) = Ideal.exp (l (ix2 r s) - Finset.univ.fold max ⊥ (fun s => l (ix2 r s))) := by
  pointwise [expsOf]
  rw [ofBits_bot]

theorem gatedOf_apply (l : FVec Ideal S1024x256 .f32) (v : Vec Ideal S1x1x256x128 .bf16) (gate : FVec Ideal S1024x128 .f32)
    (r : Fin 1024) (e : Fin 128) :
    gatedOf l v gate (ix2 r e) = Ideal.div (∑ s, expsOf l (ix2 r s) * v (ix4 0 0 s e)) (∑ s, expsOf l (ix2 r s))
      * silu (gate (ix2 r e)) := by
  pointwise [gatedOf, siluOf, silu]
  rw [zero_sub]

/-- A head at an index. -/
theorem headOf_apply (u gate : FVec Ideal S1024x512 .f32) (x5 : Vec Ideal S1x1x512x256 .bf16) (x6 : Vec Ideal S1x1x256x512 .bf16)
    (x7 : Vec Ideal S1x1x128 .f32) (h : Fin 4) (r : Fin 1024) (e : Fin 128) :
    headOf u gate x5 x6 x7 h (ix2 r e)
      = memory (fun d => u (ix2 r ⟨128 * h.val + d.val, by omega⟩)) (fun d => x7 (ix3 0 0 d))
          (fun d s => x5 (ix4 0 0 ⟨128 * h.val + d.val, by omega⟩ s)) (fun s e => x6 (ix4 0 0 s ⟨128 * h.val + e.val, by omega⟩)) e
        * silu (gate (ix2 r ⟨128 * h.val + e.val, by omega⟩)) := by
  unfold headOf
  rw [gatedOf_apply, lanes_apply]
  unfold memory memExp
  have e5 : ∀ (d : Fin 128) (s : Fin 256), View.ld x5 (Rect.unit ![0, 0, 128 * h.val, 0] S1x1x128x256.size (by revert h; decide)) (ix4 0 0 d s)
      = x5 (ix4 0 0 ⟨128 * h.val + d.val, by omega⟩ s) := fun d s =>
    View.ld_unit_apply_of _ _ _ _ _ _ (by intro a; fin_cases a <;> simp)
  have e6 : ∀ (s : Fin 256) (e : Fin 128), View.ld x6 (Rect.unit ![0, 0, 0, 128 * h.val] S1x1x256x128.size (by clear e5; revert h; decide)) (ix4 0 0 s e)
      = x6 (ix4 0 0 s ⟨128 * h.val + e.val, by omega⟩) := fun s e =>
    View.ld_unit_apply_of _ _ _ _ _ _ (by intro a; fin_cases a <;> simp)
  have e7 : View.ld x7 r0_5 = x7 := View.ld_unit_lit' _ _ (by decide)
  simp only [expsOf_apply, logitsOf_apply, lanes_apply, e5, e6, e7]

theorem pay5_apply (X : Vec Ideal S1x1024x1024 .f32) (g : Vec Ideal S1x1024 .f32) (r d : Fin 1024) :
    k0_pay5 X g (ix2 r d) = rms 0x44800000#32 (fun d => X (ix3 0 r d)) (fun d => g (ix2 0 d)) d := by
  pointwise [k0_pay5, k0_pay4, rms]

theorem pay6_apply (X : Vec Ideal S1x1024x1024 .f32) (g : Vec Ideal S1x1x1024 .f32) (r d : Fin 1024) :
    k0_pay6 X g (ix2 r d) = rms 0x44800000#32 (fun d => X (ix3 0 r d)) (fun d => g (ix3 0 0 d)) d := by
  pointwise [k0_pay6, k0_pay4, rms]

theorem pay3_apply (X : FVec Ideal S1024x1024 .bf16) (W : Vec Ideal S1x1024x1024 .bf16) (r j : Fin 1024) :
    k0_pay3 X W (ix3 0 r j) = (∑ d, X (ix2 r d) * W (ix3 0 d j)) * Ideal.ofBits .f32 0x3E0293EE#32 := by
  pointwise [k0_pay3]

theorem pay32_apply (X W : FVec Ideal S1024x1024 .bf16) (r j : Fin 1024) :
    k0_pay32 X W (ix3 0 r j) = ∑ d, X (ix2 r d) * W (ix2 d j) := by
  pointwise [k0_pay32]

theorem pay2_apply (X W : FVec Ideal S1024x1024 .bf16) (r j : Fin 1024) :
    k0_pay2 X W (ix3 0 r j) = ∑ d, X (ix2 r d) * W (ix2 d j) := by
  pointwise [k0_pay2]

theorem pay19_apply (X : FVec Ideal S1024x1024 .bf16) (W : Vec Ideal S1x1024x1024 .bf16) (r j : Fin 1024) :
    k0_pay19 X W (ix3 0 r j) = silu (∑ d, X (ix2 r d) * W (ix3 0 d j)) := by
  pointwise [k0_pay19, silu]
  rw [zero_sub]

/-- A slab of the in-projection for the memory. -/
theorem pay7_apply (X : Vec Ideal S1x1024x1024 .f32) (g : Vec Ideal S1x1x1024 .f32) (W : Vec Ideal S1x1024x512 .bf16) (r : Fin 1024) (j : Fin 512) :
    k0_pay7 X g W (ix2 r j) = ∑ d, rms 0x44800000#32 (fun d => X (ix3 0 r d)) (fun d => g (ix3 0 0 d)) d * W (ix3 0 d j) := by
  unfold k0_pay7
  simp only [← pay6_apply]
  generalize k0_pay6 X g = Y
  pointwise

/-- A slab of the in-projection for the memory's gate. -/
theorem pay8_apply (X : Vec Ideal S1x1024x1024 .f32) (g : Vec Ideal S1x1x1024 .f32) (W : Vec Ideal S1x1024x512 .bf16) (r : Fin 1024) (j : Fin 512) :
    k0_pay8 X g W (ix2 r j) = ∑ d, rms 0x44800000#32 (fun d => X (ix3 0 r d)) (fun d => g (ix3 0 0 d)) d * W (ix3 0 d j) :=
  pay7_apply X g W r j

/-- Four heads side by side, read at a column. -/
theorem beside_apply (m0 m1 m2 m3 : FVec Ideal S1024x128 .bf16) (r : Fin 1024) (j : Fin 512) :
    shapeCast S1x1024x512 (concatenate S1024x512 1 [⟨S1024x128, m0⟩, ⟨S1024x128, m1⟩, ⟨S1024x128, m2⟩, ⟨S1024x128, m3⟩]
      concatenates_S1024x128_S1024x128_S1024x128_S1024x128_S1024x512_d1) shapeCasts_S1024x512_S1x1024x512 (ix3 0 r j)
      = (![m0, m1, m2, m3] (⟨j.val / 128, by omega⟩ : Fin 4)) (ix2 r ⟨j.val % 128, by omega⟩) := by
  pointwise
  obtain ⟨q, hq⟩ : ∃ q : Fin 4, q = ⟨j.val / 128, by omega⟩ := ⟨_, rfl⟩
  have hv : q.val = j.val / 128 := by rw [hq]
  rw [← hq]
  fin_cases q <;> simp at hv <;> (repeat rw [dif_neg (by omega)]) <;> (try rw [dif_pos (by omega)]) <;>
    (simp; congr 2; apply Fin.ext; simp; omega)

end Cert.Proj.Body

end
-- ==== Proof.ProjPoints.lean ====
module

public import proofs.«01_k».proof.Proof.ProjBody
public import proofs.«01_k».proof.Proof.Gen.Kernel2Ideal.Value
public import Idealize.ShloMosaic.Lib.Claim
public import Idealize.ShloMosaic.Lib.StableHlo.ReadAt

@[expose] public section

/-!
# The projection kernel's grid points and its results

What a grid point's blocks are of the arguments, what it stores, and the result arrays after the run.
-/

open Idealize.ShloMosaic Idealize.ShloMosaic.TcCoe
open Cert.Kernel2Ideal Cert.Kernel2Ideal.Gen Cert.Kernel2Ideal.Value

set_option maxRecDepth 16384

noncomputable section

namespace Cert.Proj.Body

open Cert.Layer

/-- The call's arguments, out of the arrays. -/
def argsOf (x : FVec Ideal ⟨3, ![2, 8192, 1024]⟩ .f32) (gkv : FVec Ideal ⟨1, ![1024]⟩ .f32) (gn : FVec Ideal ⟨2, ![1, 1024]⟩ .f32)
    (wkv : FVec Ideal ⟨2, ![1024, 2048]⟩ .bf16) (win : FVec Ideal ⟨3, ![1, 1024, 3072]⟩ .bf16)
    (kt : FVec Ideal ⟨4, ![2, 2, 512, 256]⟩ .bf16) (mv : FVec Ideal ⟨4, ![2, 2, 256, 512]⟩ .bf16) (gq : FVec Ideal ⟨2, ![2, 128]⟩ .f32) : Args where
  x b t d := x (ix3 b t d)
  gkv d := gkv (ix1 d)
  gn d := gn (ix2 0 d)
  wkv d j := wkv (ix2 d j)
  win d j := win (ix3 0 d j)
  kt b d s := kt (ix4 1 b d s)
  mv b s d := mv (ix4 1 b s d)
  gq d := gq (ix2 1 d)

/-- Row `r` of tile `n` as a token. -/
def tok (n : Fin 8) (r : Fin 1024) : Fin 8192 := ⟨1024 * n.val + r.val, by omega⟩

/-- The blocks of a point are those of the arguments, at tile `n` of sequence `b`. -/
structure Holds (x0 : Vec Ideal S1x1024x1024 .f32) (x1 : Vec Ideal S1x1024 .f32) (x2 : Vec Ideal S1x1x1024 .f32) (x3 : Vec Ideal S1024x2048 .bf16)
    (x4 : Vec Ideal S1x1024x3072 .bf16) (x5 : Vec Ideal S1x1x512x256 .bf16) (x6 : Vec Ideal S1x1x256x512 .bf16) (x7 : Vec Ideal S1x1x128 .f32)
    (A : Args) (b : Fin 2) (n : Fin 8) : Prop where
  x : ∀ r d, x0 (ix3 0 r d) = A.x b (tok n r) d
  gkv : ∀ d, x1 (ix2 0 d) = A.gkv d
  gn : ∀ d, x2 (ix3 0 0 d) = A.gn d
  wkv : ∀ d j, x3 (ix2 d j) = A.wkv d j
  win : ∀ d j, x4 (ix3 0 d j) = A.win d j
  kt : ∀ d s, x5 (ix4 0 0 d s) = A.kt b d s
  mv : ∀ s d, x6 (ix4 0 0 s d) = A.mv b s d
  gq : ∀ d, x7 (ix3 0 0 d) = A.gq d

section
variable {x0 : Vec Ideal S1x1024x1024 .f32} {x1 : Vec Ideal S1x1024 .f32} {x2 : Vec Ideal S1x1x1024 .f32} {x3 : Vec Ideal S1024x2048 .bf16}
    {x4 : Vec Ideal S1x1024x3072 .bf16} {x5 : Vec Ideal S1x1x512x256 .bf16} {x6 : Vec Ideal S1x1x256x512 .bf16} {x7 : Vec Ideal S1x1x128 .f32}
    {A : Args} {b : Fin 2} {n : Fin 8} (H : Holds x0 x1 x2 x3 x4 x5 x6 x7 A b n)
include H

theorem Holds.norm_kv (r d : Fin 1024) : k0_pay5 (View.ld x0 r0_0) (View.ld x1 r0_1) (ix2 r d)
    = rms 0x44800000#32 (A.x b (tok n r)) A.gkv d := by
  rw [View.ld_unit_lit' _ _ (by decide), View.ld_unit_lit' _ _ (by decide), pay5_apply]
  simp only [H.x, H.gkv]

theorem Holds.norm (r d : Fin 1024) : k0_pay6 (View.ld x0 r0_0) (View.ld x2 r0_2) (ix2 r d)
    = rms 0x44800000#32 (A.x b (tok n r)) A.gn d := by
  rw [View.ld_unit_lit' _ _ (by decide), View.ld_unit_lit' _ _ (by decide), pay6_apply]
  simp only [H.x, H.gn]

/-- The point's queries. -/
theorem Holds.q (r j : Fin 1024) : out0_8 x0 x1 x2 x3 x4 x5 x6 x7 (ix3 0 r j) = A.q b (tok n r) j := by
  unfold out0_8 k0_pay38
  rw [View.canon_cons_unit_lit' _ _ _ (by decide), pay3_apply]
  unfold Args.q Args.u inProj
  refine congrArg (· * _) (Finset.sum_congr rfl fun d _ => congrArg₂ (· * ·) (H.norm r d) ?_)
  rw [← H.win]
  exact View.ld_unit_apply_of _ _ _ _ _ _ (by intro a; fin_cases a <;> simp)

/-- The point's keys. -/
theorem Holds.k (r j : Fin 1024) : out0_9 x0 x1 x2 x3 x4 x5 x6 x7 (ix3 0 r j) = A.k b (tok n r) j := by
  unfold out0_9 k0_pay37
  rw [View.canon_cons_unit_lit' _ _ _ (by decide), pay32_apply]
  unfold Args.k Args.kv inProj
  refine Finset.sum_congr rfl fun d _ => congrArg₂ (· * ·) (H.norm_kv r d) ?_
  rw [← H.wkv]
  exact View.ld_unit_apply_of _ _ _ _ _ _ (by intro a; fin_cases a <;> simp)

/-- The point's values. -/
theorem Holds.v (r j : Fin 1024) : out0_10 x0 x1 x2 x3 x4 x5 x6 x7 (ix3 0 r j) = A.v b (tok n r) j := by
  unfold out0_10 k0_pay37
  rw [View.canon_cons_unit_lit' _ _ _ (by decide), pay2_apply]
  unfold Args.v Args.kv inProj
  refine Finset.sum_congr rfl fun d _ => congrArg₂ (· * ·) (H.norm_kv r d) ?_
  rw [← H.wkv]
  exact View.ld_unit_apply_of _ _ _ _ _ _ (by intro a; fin_cases a <;> simp)

/-- The point's gate. -/
theorem Holds.gate (r j : Fin 1024) : out0_11 x0 x1 x2 x3 x4 x5 x6 x7 (ix3 0 r j) = A.gate b (tok n r) j := by
  unfold out0_11 k0_pay38
  rw [View.canon_cons_unit_lit' _ _ _ (by decide), pay19_apply]
  unfold Args.gate Args.u inProj
  refine congrArg silu (Finset.sum_congr rfl fun d _ => congrArg₂ (· * ·) (H.norm r d) ?_)
  rw [← H.win]
  exact View.ld_unit_apply_of _ _ _ _ _ _ (by intro a; fin_cases a <;> simp)

/-- The lanes for the memory. -/
theorem Holds.memU (r : Fin 1024) (j : Fin 512) : k0_pay7 (View.ld x0 r0_0) (View.ld x2 r0_2) (View.ld x4 r0_3) (ix2 r j)
    = A.u b (tok n r) ⟨2048 + j.val, by omega⟩ := by
  rw [pay7_apply]
  unfold Args.u inProj
  refine Finset.sum_congr rfl fun d _ => congrArg₂ (· * ·) ((pay6_apply _ _ r d).symm.trans (H.norm r d)) ?_
  rw [← H.win]
  exact View.ld_unit_apply_of _ _ _ _ _ _ (by intro a; fin_cases a <;> simp)

/-- The lanes for the memory's gate. -/
theorem Holds.memG (r : Fin 1024) (j : Fin 512) : k0_pay8 (View.ld x0 r0_0) (View.ld x2 r0_2) (View.ld x4 r0_4) (ix2 r j)
    = A.u b (tok n r) ⟨2560 + j.val, by omega⟩ := by
  rw [pay8_apply]
  unfold Args.u inProj
  refine Finset.sum_congr rfl fun d _ => congrArg₂ (· * ·) ((pay6_apply _ _ r d).symm.trans (H.norm r d)) ?_
  rw [← H.win]
  exact View.ld_unit_apply_of _ _ _ _ _ _ (by intro a; fin_cases a <;> simp)

/-- The point's gated attention to the memory. -/
theorem Holds.mo (r : Fin 1024) (j : Fin 512) : out0_12 x0 x1 x2 x3 x4 x5 x6 x7 (ix3 0 r j) = A.mo b (tok n r) j := by
  have hh : ∀ (h : Fin 4) (e : Fin 128), headOf (k0_pay7 (View.ld x0 r0_0) (View.ld x2 r0_2) (View.ld x4 r0_3))
      (k0_pay8 (View.ld x0 r0_0) (View.ld x2 r0_2) (View.ld x4 r0_4)) x5 x6 x7 h (ix2 r e) = A.head b (tok n r) h e := by
    intro h e
    rw [headOf_apply]
    unfold Args.head Args.memQ Args.memK Args.memV
    simp only [H.memU, H.memG, H.kt, H.mv, H.gq]
  rw [out12_eq, View.canon_cons_unit_lit' _ _ _ (by decide), beside_apply]
  unfold Args.mo
  rw [← hh]
  generalize (⟨j.val / 128, _⟩ : Fin 4) = q
  fin_cases q <;> rfl

end

/-! ## The blocks -/

variable (m : (ℓ : Loc nD τ sig) → Buf (Elt Ideal) ℓ) (c : Dev nD)

/-- The call's arguments, as the kernel finds them. -/
def args : Args :=
  argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

theorem index0 : ∀ t : Fin cfg0.N, win0_0.index t = ![t.val / 8, t.val % 8, 0] := by decide +kernel
theorem index1 : ∀ t : Fin cfg0.N, win0_1.index t = ![0, 0] := by decide +kernel
theorem index2 : ∀ t : Fin cfg0.N, win0_2.index t = ![0, 0, 0] := by decide +kernel
theorem index3 : ∀ t : Fin cfg0.N, win0_3.index t = ![0, 0] := by decide +kernel
theorem index4 : ∀ t : Fin cfg0.N, win0_4.index t = ![0, 0, 0] := by decide +kernel
theorem index5 : ∀ t : Fin cfg0.N, win0_5.index t = ![1, t.val / 8, 0, 0] := by decide +kernel
theorem index6 : ∀ t : Fin cfg0.N, win0_6.index t = ![1, t.val / 8, 0, 0] := by decide +kernel
theorem index7 : ∀ t : Fin cfg0.N, win0_7.index t = ![1, 0, 0] := by decide +kernel
theorem index8 : ∀ t : Fin cfg0.N, win0_8.index t = ![t.val / 8, t.val % 8, 0] := by decide +kernel
theorem index9 : ∀ t : Fin cfg0.N, win0_9.index t = ![t.val / 8, t.val % 8, 0] := by decide +kernel
theorem index10 : ∀ t : Fin cfg0.N, win0_10.index t = ![t.val / 8, t.val % 8, 0] := by decide +kernel
theorem index11 : ∀ t : Fin cfg0.N, win0_11.index t = ![t.val / 8, t.val % 8, 0] := by decide +kernel
theorem index12 : ∀ t : Fin cfg0.N, win0_12.index t = ![t.val / 8, t.val % 8, 0] := by decide +kernel

theorem V_v0 (d : Fin 1024) : (V m c main_v0 : FVec Ideal S1x1024 .f32) (ix2 0 d) = (args m c).gkv d := by
  unfold V
  after_reads_at
  rfl
theorem V_v1 (d : Fin 1024) : (V m c main_v1 : FVec Ideal S1x1x1024 .f32) (ix3 0 0 d) = (args m c).gn d := by
  unfold V
  after_reads_at
  rfl
theorem V_v2 (d : Fin 128) : (V m c main_v2 : FVec Ideal S2x1x128 .f32) (ix3 1 0 d) = (args m c).gq d := by
  unfold V
  after_reads_at
  rfl

/-- Point `8 b + n` reads rows `1024 n …` of sequence `b` of the arguments. -/
theorem holds (t : Fin cfg0.N) (b : Fin 2) (n : Fin 8) (ht : t.val = 8 * b.val + n.val) :
    Holds (iblk m c 0 t) (iblk m c 1 t) (iblk m c 2 t) (iblk m c 3 t) (iblk m c 4 t) (iblk m c 5 t) (iblk m c 6 t) (iblk m c 7 t) (args m c) b n where
  x r d := by
    show iblk m c 0 t (ix3 0 r d) = m ((c.tc : Thread nD τ).loc main_arg0) (ix3 b ⟨1024 * n.val + r.val, by omega⟩ d)
    blk_ext [iblk, V, index0 t]
  gkv d := by
    refine Eq.trans ?_ (V_v0 m c d)
    show iblk m c 1 t (ix2 0 d) = V m c main_v0 (ix2 0 d)
    blk_ext [iblk, index1 t]
  gn d := by
    refine Eq.trans ?_ (V_v1 m c d)
    show iblk m c 2 t (ix3 0 0 d) = V m c main_v1 (ix3 0 0 d)
    blk_ext [iblk, index2 t]
  wkv d j := by
    show iblk m c 3 t (ix2 d j) = m ((c.tc : Thread nD τ).loc main_arg3) (ix2 d j)
    blk_ext [iblk, V, index3 t]
  win d j := by
    show iblk m c 4 t (ix3 0 d j) = m ((c.tc : Thread nD τ).loc main_arg4) (ix3 0 d j)
    blk_ext [iblk, V, index4 t]
  kt d s := by
    show iblk m c 5 t (ix4 0 0 d s) = m ((c.tc : Thread nD τ).loc main_arg5) (ix4 1 b d s)
    blk_ext [iblk, V, index5 t]
  mv s d := by
    show iblk m c 6 t (ix4 0 0 s d) = m ((c.tc : Thread nD τ).loc main_arg6) (ix4 1 b s d)
    blk_ext [iblk, V, index6 t]
  gq d := by
    refine Eq.trans ?_ (V_v2 m c d)
    show iblk m c 7 t (ix3 0 0 d) = V m c main_v2 (ix3 1 0 d)
    blk_ext [iblk, index7 t]

/-- Every point is a tile of a sequence. -/
theorem point (t : Fin cfg0.N) : ∃ (b : Fin 2) (n : Fin 8), t.val = 8 * b.val + n.val := by
  have hN : cfg0.N = 16 := N_0
  have := t.isLt
  exact ⟨⟨t.val / 8, by omega⟩, ⟨t.val % 8, by omega⟩, by simp only []; omega⟩

/-! ## The result arrays -/

attribute [local irreducible] out0_8 out0_9 out0_10 out0_11 out0_12

/-- An index of a block is a row and a lane. -/
theorem row_lane {n : ℕ} (y : Shape.Idx ⟨3, ![1, 1024, n]⟩) : ∃ r j, y = ix3 0 r j :=
  ⟨y 1, y 2, (eq_ix3 y).trans (by congr 1; exact Subsingleton.elim (α := Fin 1) _ _)⟩

/-- The queries' array after the run. -/
theorem final_q : (dats m 0 c).arrAt 8 cfg0.N = (fun i => (args m c).q (i 0) (i 1) (i 2) : FVec Ideal S2x8192x1024 .bf16) := by
  refine (dats m 0 c).arrAt_eq_of_covers 8 _ (by decide +kernel) fun t hf y => ?_
  blk_simp
  rw [after0_8]
  obtain ⟨b, n, ht⟩ := point t
  obtain ⟨r, j, rfl⟩ := row_lane y
  rw [show (win0_8.blk t).view.emb (ix3 0 r j) = ix3 b (tok n r) j by unfold tok; blk_ext [index8 t]]
  exact (holds m c t b n ht).q r j

/-- The keys' array after the run. -/
theorem final_k : (dats m 0 c).arrAt 9 cfg0.N = (fun i => (args m c).k (i 0) (i 1) (i 2) : FVec Ideal S2x8192x1024 .bf16) := by
  refine (dats m 0 c).arrAt_eq_of_covers 9 _ (by decide +kernel) fun t hf y => ?_
  blk_simp
  rw [after0_9]
  obtain ⟨b, n, ht⟩ := point t
  obtain ⟨r, j, rfl⟩ := row_lane y
  rw [show (win0_9.blk t).view.emb (ix3 0 r j) = ix3 b (tok n r) j by unfold tok; blk_ext [index9 t]]
  exact (holds m c t b n ht).k r j

/-- The values' array after the run. -/
theorem final_v : (dats m 0 c).arrAt 10 cfg0.N = (fun i => (args m c).v (i 0) (i 1) (i 2) : FVec Ideal S2x8192x1024 .bf16) := by
  refine (dats m 0 c).arrAt_eq_of_covers 10 _ (by decide +kernel) fun t hf y => ?_
  blk_simp
  rw [after0_10]
  obtain ⟨b, n, ht⟩ := point t
  obtain ⟨r, j, rfl⟩ := row_lane y
  rw [show (win0_10.blk t).view.emb (ix3 0 r j) = ix3 b (tok n r) j by unfold tok; blk_ext [index10 t]]
  exact (holds m c t b n ht).v r j

/-- The gate's array after the run. -/
theorem final_gate : (dats m 0 c).arrAt 11 cfg0.N = (fun i => (args m c).gate (i 0) (i 1) (i 2) : FVec Ideal S2x8192x1024 .bf16) := by
  refine (dats m 0 c).arrAt_eq_of_covers 11 _ (by decide +kernel) fun t hf y => ?_
  blk_simp
  rw [after0_11]
  obtain ⟨b, n, ht⟩ := point t
  obtain ⟨r, j, rfl⟩ := row_lane y
  rw [show (win0_11.blk t).view.emb (ix3 0 r j) = ix3 b (tok n r) j by unfold tok; blk_ext [index11 t]]
  exact (holds m c t b n ht).gate r j

/-- The gated memory output's array after the run. -/
theorem final_mo : (dats m 0 c).arrAt 12 cfg0.N = (fun i => (args m c).mo (i 0) (i 1) (i 2) : FVec Ideal S2x8192x512 .bf16) := by
  refine (dats m 0 c).arrAt_eq_of_covers 12 _ (by decide +kernel) fun t hf y => ?_
  blk_simp
  rw [after0_12]
  obtain ⟨b, n, ht⟩ := point t
  obtain ⟨r, j, rfl⟩ := row_lane y
  rw [show (win0_12.blk t).view.emb (ix3 0 r j) = ix3 b (tok n r) j by unfold tok; blk_ext [index12 t]]
  exact (holds m c t b n ht).mo r j

end Cert.Proj.Body

end
-- ==== Proof.ProjRef.lean ====
module

public import proofs.«01_k».proof.Proof.ProjPoints
public import proofs.«01_k».proof.Proof.Gen.Reference2Ideal.Run

@[expose] public section

/-!
# The projections' reference

The reference's results as operations on whole arrays, and those operations read at an index.
-/

open Idealize.ShloMosaic Idealize.ShloMosaic.TcCoe
open Cert.Reference2Ideal Cert.Reference2Ideal.Gen Cert.Reference2Ideal.Value

set_option maxRecDepth 16384
set_option maxHeartbeats 1000000

noncomputable section

namespace Cert.Proj.Ref

open Cert.Layer

/-! ## The operations -/

/-- Every row of `x` by its root mean square, times the gain `g`. -/
def normOf (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf
      (Host.divf (broadcastInDim S2x8192x1 ![0, 1] bcast_S2x8192_S2x8192x1_0_1
          (Host.reduceAdd (mulf x x) (constant S_ .f32 0x00000000#32) reducesTo_S2x8192x1024_S2x8192_d2 h_S_))
        (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The in-projection. -/
def uOf (x : FVec Ideal S2x8192x1024 .f32) (gn : FVec Ideal S1x1024 .f32) (win : FVec Ideal S1x1024x3072 .bf16) : FVec Ideal S2x8192x3072 .f32 :=
  Host.dotGeneral dot_S2x8192x1024_S1024x3072_S2x8192x3072_2_0_01_1_n_n none (normOf x (shapeCast _ gn shapeCasts_S1x1024_S1024))
    (extf .f32 (shapeCast _ win shapeCasts_S1x1024x3072_S1024x3072) bitsLt_bf16_f32)

/-- The projection to keys and values. -/
def kvOf (x : FVec Ideal S2x8192x1024 .f32) (gkv : FVec Ideal S1024 .f32) (wkv : FVec Ideal S1024x2048 .bf16) : FVec Ideal S2x8192x2048 .f32 :=
  Host.dotGeneral dot_S2x8192x1024_S1024x2048_S2x8192x2048_2_0_01_1_n_n none (normOf x gkv) (extf .f32 wkv bitsLt_bf16_f32)

/-- The first 1024 lanes, scaled. -/
def qOf (u : FVec Ideal S2x8192x3072 .f32) : FVec Ideal S2x8192x1024 .bf16 :=
  truncf .bf16 (mulf (extractStridedSlice S2x8192x1024 ![0, 0, 0] u slices_S2x8192x3072_S2x8192x1024_0_0_0)
    (broadcastInDim S2x8192x1024 ![] bcast_S_S2x8192x1024 (constant S_ .f32 0x3E0293EE#32))) bitsLt_bf16_f32

/-- The first 1024 lanes. -/
def kOf (kv : FVec Ideal S2x8192x2048 .f32) : FVec Ideal S2x8192x1024 .bf16 :=
  truncf .bf16 (extractStridedSlice S2x8192x1024 ![0, 0, 0] kv slices_S2x8192x2048_S2x8192x1024_0_0_0) bitsLt_bf16_f32

/-- The last 1024 lanes. -/
def vOf (kv : FVec Ideal S2x8192x2048 .f32) : FVec Ideal S2x8192x1024 .bf16 :=
  truncf .bf16 (extractStridedSlice S2x8192x1024 ![0, 0, 1024] kv slices_S2x8192x2048_S2x8192x1024_0_0_1024) bitsLt_bf16_f32

/-- The gate's lanes through the nonlinearity. -/
def gateOf (u : FVec Ideal S2x8192x3072 .f32) : FVec Ideal S2x8192x1024 .bf16 :=
  truncf .bf16 (mulf (extractStridedSlice S2x8192x1024 ![0, 0, 1024] u slices_S2x8192x3072_S2x8192x1024_0_0_1024)
    (Host.divf (broadcastInDim S2x8192x1024 ![] bcast_S_S2x8192x1024 (constant S_ .f32 0x3F800000#32))
      (addf (broadcastInDim S2x8192x1024 ![] bcast_S_S2x8192x1024 (constant S_ .f32 0x3F800000#32))
        (Host.exp (Host.negf (extractStridedSlice S2x8192x1024 ![0, 0, 1024] u slices_S2x8192x3072_S2x8192x1024_0_0_1024)))))) bitsLt_bf16_f32

/-- The memory's queries, head by head. -/
def memQOf (u : FVec Ideal S2x8192x3072 .f32) : FVec Ideal S2x4x8192x128 .f32 :=
  transpose S2x4x8192x128 [0, 2, 1, 3] (shapeCast _ (extractStridedSlice S2x8192x512 ![0, 0, 2048] u slices_S2x8192x3072_S2x8192x512_0_0_2048)
    shapeCasts_S2x8192x512_S2x8192x4x128) transposes_S2x8192x4x128_S2x4x8192x128_0_2_1_3

/-- The memory's keys, head by head. -/
def memKOf (kt : FVec Ideal S2x2x512x256 .bf16) : FVec Ideal S2x4x256x128 .f32 :=
  transpose S2x4x256x128 [0, 1, 3, 2] (shapeCast _ (extf .f32 (shapeCast _ (extractStridedSlice S1x2x512x256 ![1, 0, 0, 0] kt
    slices_S2x2x512x256_S1x2x512x256_1_0_0_0) shapeCasts_S1x2x512x256_S2x512x256) bitsLt_bf16_f32) shapeCasts_S2x512x256_S2x4x128x256)
    transposes_S2x4x128x256_S2x4x256x128_0_1_3_2

/-- The memory's values, head by head. -/
def memVOf (mv : FVec Ideal S2x2x256x512 .bf16) : FVec Ideal S2x4x256x128 .f32 :=
  transpose S2x4x256x128 [0, 2, 1, 3] (shapeCast _ (extf .f32 (shapeCast _ (extractStridedSlice S1x2x256x512 ![1, 0, 0, 0] mv
    slices_S2x2x256x512_S1x2x256x512_1_0_0_0) shapeCasts_S1x2x256x512_S2x256x512) bitsLt_bf16_f32) shapeCasts_S2x256x512_S2x256x4x128)
    transposes_S2x256x4x128_S2x4x256x128_0_2_1_3

/-- The logits: the normalised queries against the keys, scaled. -/
def logitsOf (q : FVec Ideal S2x4x8192x128 .f32) (gq : FVec Ideal S2x128 .f32) (k : FVec Ideal S2x4x256x128 .f32) : FVec Ideal S2x4x8192x256 .f32 :=
  mulf (Host.dotGeneral dot_S2x4x8192x128_S2x4x256x128_S2x4x8192x256_3_3_2_2_01_01 none
    (mulf (mulf q (broadcastInDim S2x4x8192x128 ![0, 1, 2, 3] bcast_S2x4x8192x1_S2x4x8192x128_0_1_2_3 (Host.rsqrt (addf
        (Host.divf (broadcastInDim S2x4x8192x1 ![0, 1, 2] bcast_S2x4x8192_S2x4x8192x1_0_1_2
            (Host.reduceAdd (mulf q q) (constant S_ .f32 0x00000000#32) reducesTo_S2x4x8192x128_S2x4x8192_d3 h_S_))
          (broadcastInDim S2x4x8192x1 ![] bcast_S_S2x4x8192x1 (constant S_ .f32 0x43000000#32)))
        (broadcastInDim S2x4x8192x1 ![] bcast_S_S2x4x8192x1 (constant S_ .f32 0x358637BD#32))))))
      (broadcastInDim S2x4x8192x128 ![0, 1, 2, 3] bcast_S1x1x1x128_S2x4x8192x128_0_1_2_3 (broadcastInDim S1x1x1x128 ![3] bcast_S128_S1x1x1x128_3
        (shapeCast _ (extractStridedSlice S1x128 ![1, 0] gq slices_S2x128_S1x128_1_0) shapeCasts_S1x128_S128)))) k)
    (broadcastInDim S2x4x8192x256 ![] bcast_S_S2x4x8192x256 (constant S_ .f32 0x3DB504F3#32))

/-- The rows' maxima. -/
def maxOf (l : FVec Ideal S2x4x8192x256 .f32) : FVec Ideal S2x4x8192 .f32 :=
  Host.reduce (FloatOps.maximumf (F := Ideal)) l (constant S_ .f32 0xFF800000#32) reducesTo_S2x4x8192x256_S2x4x8192_d3 h_S_

/-- The exponentials of the entries less `y`, row by row. -/
def expOf (l : FVec Ideal S2x4x8192x256 .f32) (y : FVec Ideal S2x4x8192 .f32) : FVec Ideal S2x4x8192x256 .f32 :=
  Host.exp (subf l (broadcastInDim S2x4x8192x256 ![0, 1, 2, 3] bcast_S2x4x8192x1_S2x4x8192x256_0_1_2_3
    (broadcastInDim S2x4x8192x1 ![0, 1, 2] bcast_S2x4x8192_S2x4x8192x1_0_1_2
      (maximumf (broadcastInDim S2x4x8192 ![] bcast_S_S2x4x8192 (constant S_ .f32 0xFF800000#32)) y))))

/-- The values weighted by the numerators over their sum, the heads side by side. -/
def attendOf (e : FVec Ideal S2x4x8192x256 .f32) (v : FVec Ideal S2x4x256x128 .f32) : FVec Ideal S2x8192x512 .f32 :=
  shapeCast _ (transpose S2x8192x4x128 [0, 2, 1, 3]
      (Host.dotGeneral dot_S2x4x8192x256_S2x4x256x128_S2x4x8192x128_3_2_2_3_01_01 none
        (Host.divf e (broadcastInDim S2x4x8192x256 ![0, 1, 2, 3] bcast_S2x4x8192x1_S2x4x8192x256_0_1_2_3
          (broadcastInDim S2x4x8192x1 ![0, 1, 2] bcast_S2x4x8192_S2x4x8192x1_0_1_2
            (Host.reduceAdd e (constant S_ .f32 0x00000000#32) reducesTo_S2x4x8192x256_S2x4x8192_d3 h_S_)))) v)
      transposes_S2x4x8192x128_S2x8192x4x128_0_2_1_3) shapeCasts_S2x8192x4x128_S2x8192x512

/-- The memory's gate. -/
def memGateOf (u : FVec Ideal S2x8192x3072 .f32) : FVec Ideal S2x8192x512 .f32 :=
  mulf (extractStridedSlice S2x8192x512 ![0, 0, 2560] u slices_S2x8192x3072_S2x8192x512_0_0_2560)
    (Host.divf (broadcastInDim S2x8192x512 ![] bcast_S_S2x8192x512 (constant S_ .f32 0x3F800000#32))
      (addf (broadcastInDim S2x8192x512 ![] bcast_S_S2x8192x512 (constant S_ .f32 0x3F800000#32))
        (Host.exp (Host.negf (extractStridedSlice S2x8192x512 ![0, 0, 2560] u slices_S2x8192x3072_S2x8192x512_0_0_2560)))))

/-- The gated attention to the memory. -/
def moOf (e : FVec Ideal S2x4x8192x256 .f32) (v : FVec Ideal S2x4x256x128 .f32) (u : FVec Ideal S2x8192x3072 .f32) : FVec Ideal S2x8192x512 .bf16 :=
  truncf .bf16 (mulf (attendOf e v) (memGateOf u)) bitsLt_bf16_f32

/-! ## The operations at an index -/

theorem ofBits_bot : Ideal.ofBits .f32 0xFF800000#32 = (⊥ : EReal) := by simp [Ideal.ofBits, Ideal.ieee]

theorem normOf_apply (x : FVec Ideal S2x8192x1024 .f32) (g : FVec Ideal S1024 .f32) (b : Fin 2) (t : Fin 8192) (d : Fin 1024) :
    normOf x g (ix3 b t d) = rms 0x44800000#32 (fun d => x (ix3 b t d)) (fun d => g (ix1 d)) d := by
  unfold normOf
  pointwise
  rfl

theorem uOf_apply (x : FVec Ideal S2x8192x1024 .f32) (gn : FVec Ideal S1x1024 .f32) (win : FVec Ideal S1x1024x3072 .bf16) (b : Fin 2) (t : Fin 8192)
    (j : Fin 3072) : uOf x gn win (ix3 b t j)
      = inProj 0x44800000#32 (fun d => x (ix3 b t d)) (fun d => gn (ix2 0 d)) (fun d j => win (ix3 0 d j)) j := by
  unfold uOf
  pointwise [normOf_apply]
  rfl

theorem kvOf_apply (x : FVec Ideal S2x8192x1024 .f32) (gkv : FVec Ideal S1024 .f32) (wkv : FVec Ideal S1024x2048 .bf16) (b : Fin 2) (t : Fin 8192)
    (j : Fin 2048) : kvOf x gkv wkv (ix3 b t j)
      = inProj 0x44800000#32 (fun d => x (ix3 b t d)) (fun d => gkv (ix1 d)) (fun d j => wkv (ix2 d j)) j := by
  unfold kvOf
  pointwise [normOf_apply]
  rfl

theorem qOf_apply (u : FVec Ideal S2x8192x3072 .f32) (b : Fin 2) (t : Fin 8192) (j : Fin 1024) :
    qOf u (ix3 b t j) = u (ix3 b t ⟨j.val, by omega⟩) * Ideal.ofBits .f32 0x3E0293EE#32 := by
  unfold qOf
  pointwise

theorem kOf_apply (kv : FVec Ideal S2x8192x2048 .f32) (b : Fin 2) (t : Fin 8192) (j : Fin 1024) :
    kOf kv (ix3 b t j) = kv (ix3 b t ⟨j.val, by omega⟩) := by
  unfold kOf
  pointwise

theorem vOf_apply (kv : FVec Ideal S2x8192x2048 .f32) (b : Fin 2) (t : Fin 8192) (j : Fin 1024) :
    vOf kv (ix3 b t j) = kv (ix3 b t ⟨1024 + j.val, by omega⟩) := by
  unfold vOf
  pointwise

theorem gateOf_apply (u : FVec Ideal S2x8192x3072 .f32) (b : Fin 2) (t : Fin 8192) (j : Fin 1024) :
    gateOf u (ix3 b t j) = silu (u (ix3 b t ⟨1024 + j.val, by omega⟩)) := by
  unfold gateOf
  pointwise
  rfl

theorem memQOf_apply (u : FVec Ideal S2x8192x3072 .f32) (b : Fin 2) (h : Fin 4) (t : Fin 8192) (d : Fin 128) :
    memQOf u (ix4 b h t d) = u (ix3 b t ⟨2048 + (128 * h.val + d.val), by omega⟩) := by
  unfold memQOf
  pointwise
  refine congrArg u (congrArg (ix3 b t) (Fin.ext ?_))
  simp only
  omega

theorem memKOf_apply (kt : FVec Ideal S2x2x512x256 .bf16) (b : Fin 2) (h : Fin 4) (s : Fin 256) (d : Fin 128) :
    memKOf kt (ix4 b h s d) = kt (ix4 1 b ⟨128 * h.val + d.val, by omega⟩ s) := by
  unfold memKOf
  pointwise
  refine congrArg kt (congrArg (ix4 1 b · s) (Fin.ext ?_))
  simp only
  omega

theorem memVOf_apply (mv : FVec Ideal S2x2x256x512 .bf16) (b : Fin 2) (h : Fin 4) (s : Fin 256) (e : Fin 128) :
    memVOf mv (ix4 b h s e) = mv (ix4 1 b s ⟨128 * h.val + e.val, by omega⟩) := by
  unfold memVOf
  pointwise
  refine congrArg mv (congrArg (ix4 1 b s) (Fin.ext ?_))
  simp only
  omega

theorem logitsOf_apply (q : FVec Ideal S2x4x8192x128 .f32) (gq : FVec Ideal S2x128 .f32) (k : FVec Ideal S2x4x256x128 .f32) (b : Fin 2) (h : Fin 4)
    (t : Fin 8192) (s : Fin 256) : logitsOf q gq k (ix4 b h t s)
      = memLogit (fun d => q (ix4 b h t d)) (fun d => gq (ix2 1 d)) (fun d s => k (ix4 b h s d)) s := by
  unfold logitsOf
  pointwise
  rfl

theorem maxOf_apply (l : FVec Ideal S2x4x8192x256 .f32) (b : Fin 2) (h : Fin 4) (t : Fin 8192) :
    maxOf l (ix3 b h t) = Finset.univ.fold max ⊥ fun s => l (ix4 b h t s) := by
  unfold maxOf
  pointwise [ofBits_bot]

theorem expOf_apply (l : FVec Ideal S2x4x8192x256 .f32) (y : FVec Ideal S2x4x8192 .f32) (b : Fin 2) (h : Fin 4) (t : Fin 8192) (s : Fin 256) :
    expOf l y (ix4 b h t s) = Ideal.exp (l (ix4 b h t s) - y (ix3 b h t)) := by
  unfold expOf
  pointwise [ofBits_bot]
  rw [bot_sup_eq]

theorem attendOf_apply (e : FVec Ideal S2x4x8192x256 .f32) (v : FVec Ideal S2x4x256x128 .f32) (b : Fin 2) (t : Fin 8192) (j : Fin 512)
    {x y : Fin 256 → EReal} (hx : ∀ s, e (ix4 b ⟨j.val / 128, by omega⟩ t s) = x s)
    (hy : ∀ s, v (ix4 b ⟨j.val / 128, by omega⟩ s ⟨j.val % 128, by omega⟩) = y s) :
    attendOf e v (ix3 b t j) = ∑ s, Ideal.div (x s) (∑ s, x s) * y s := by
  unfold attendOf
  pointwise
  refine Finset.sum_congr rfl fun s _ => ?_
  rw [hy]
  simp only [hx]

theorem memGateOf_apply (u : FVec Ideal S2x8192x3072 .f32) (b : Fin 2) (t : Fin 8192) (j : Fin 512) :
    memGateOf u (ix3 b t j) = silu (u (ix3 b t ⟨2560 + j.val, by omega⟩)) := by
  unfold memGateOf
  pointwise
  rfl

theorem gated_apply (p g : FVec Ideal S2x8192x512 .f32) (b : Fin 2) (t : Fin 8192) (j : Fin 512) :
    (truncf .bf16 (mulf p g) bitsLt_bf16_f32 : FVec Ideal S2x8192x512 .bf16) (ix3 b t j) = p (ix3 b t j) * g (ix3 b t j) := rfl

theorem moOf_apply (e : FVec Ideal S2x4x8192x256 .f32) (v : FVec Ideal S2x4x256x128 .f32) (u : FVec Ideal S2x8192x3072 .f32) (b : Fin 2) (t : Fin 8192)
    (j : Fin 512) {x y : Fin 256 → EReal} (hx : ∀ s, e (ix4 b ⟨j.val / 128, by omega⟩ t s) = x s)
    (hy : ∀ s, v (ix4 b ⟨j.val / 128, by omega⟩ s ⟨j.val % 128, by omega⟩) = y s) :
    moOf e v u (ix3 b t j) = (∑ s, Ideal.div (x s) (∑ s, x s) * y s) * silu (u (ix3 b t ⟨2560 + j.val, by omega⟩)) := by
  unfold moOf
  rw [gated_apply, attendOf_apply e v b t j hx hy, memGateOf_apply]

/-! ## The results -/

section
variable (x : FVec Ideal S2x8192x1024 .f32) (gkv : FVec Ideal S1024 .f32) (gn : FVec Ideal S1x1024 .f32)
    (wkv : FVec Ideal S1024x2048 .bf16) (win : FVec Ideal S1x1024x3072 .bf16)
    (kt : FVec Ideal S2x2x512x256 .bf16) (mv : FVec Ideal S2x2x256x512 .bf16) (gq : FVec Ideal S2x128 .f32)

/-- The queries. -/
theorem q_eq : qOf (uOf x gn win) = fun i => (Body.argsOf x gkv gn wkv win kt mv gq).q (i 0) (i 1) (i 2) := by
  funext i
  obtain ⟨b, t, j, rfl⟩ : ∃ b t j, i = ix3 b t j := ⟨i 0, i 1, i 2, eq_ix3 i⟩
  rw [qOf_apply, uOf_apply]
  rfl

/-- The keys. -/
theorem k_eq : kOf (kvOf x gkv wkv) = fun i => (Body.argsOf x gkv gn wkv win kt mv gq).k (i 0) (i 1) (i 2) := by
  funext i
  obtain ⟨b, t, j, rfl⟩ : ∃ b t j, i = ix3 b t j := ⟨i 0, i 1, i 2, eq_ix3 i⟩
  rw [kOf_apply, kvOf_apply]
  rfl

/-- The values. -/
theorem v_eq : vOf (kvOf x gkv wkv) = fun i => (Body.argsOf x gkv gn wkv win kt mv gq).v (i 0) (i 1) (i 2) := by
  funext i
  obtain ⟨b, t, j, rfl⟩ : ∃ b t j, i = ix3 b t j := ⟨i 0, i 1, i 2, eq_ix3 i⟩
  rw [vOf_apply, kvOf_apply]
  rfl

/-- The gate. -/
theorem gate_eq : gateOf (uOf x gn win) = fun i => (Body.argsOf x gkv gn wkv win kt mv gq).gate (i 0) (i 1) (i 2) := by
  funext i
  obtain ⟨b, t, j, rfl⟩ : ∃ b t j, i = ix3 b t j := ⟨i 0, i 1, i 2, eq_ix3 i⟩
  rw [gateOf_apply, uOf_apply]
  rfl

/-- The numerators of the softmax over the memory. -/
theorem exp_eq (b : Fin 2) (h : Fin 4) (t : Fin 8192) (s : Fin 256) :
    expOf (logitsOf (memQOf (uOf x gn win)) gq (memKOf kt)) (maxOf (logitsOf (memQOf (uOf x gn win)) gq (memKOf kt))) (ix4 b h t s)
      = memExp ((Body.argsOf x gkv gn wkv win kt mv gq).memQ b t h) (Body.argsOf x gkv gn wkv win kt mv gq).gq
        ((Body.argsOf x gkv gn wkv win kt mv gq).memK b h) s := by
  rw [expOf_apply, maxOf_apply]
  simp only [logitsOf_apply, memQOf_apply, memKOf_apply, uOf_apply]
  rfl

/-- The gated attention to the memory. -/
theorem mo_eq (F : (Body.argsOf x gkv gn wkv win kt mv gq).Finite) :
    moOf (expOf (logitsOf (memQOf (uOf x gn win)) gq (memKOf kt)) (maxOf (logitsOf (memQOf (uOf x gn win)) gq (memKOf kt)))) (memVOf mv) (uOf x gn win)
      = fun i => (Body.argsOf x gkv gn wkv win kt mv gq).mo (i 0) (i 1) (i 2) := by
  funext i
  obtain ⟨b, t, j, rfl⟩ : ∃ b t j, i = ix3 b t j := ⟨i 0, i 1, i 2, eq_ix3 i⟩
  rw [moOf_apply _ _ _ b t j (fun s => exp_eq x gkv gn wkv win kt mv gq b _ t s) (fun s => memVOf_apply mv b _ s _), uOf_apply]
  show _ = (Body.argsOf x gkv gn wkv win kt mv gq).mo b t j
  unfold Args.mo
  rw [F.head_eq]
  have hj : (⟨2560 + (128 * (j.val / 128) + j.val % 128), by omega⟩ : Fin 3072) = ⟨2560 + j.val, by omega⟩ := Fin.ext (by simp only; omega)
  rw [hj]
  rfl

end

/-- The reference's last result, as these operations. -/
theorem res4 (m : (ℓ : Loc nD τ sig) → Buf (Elt Ideal) ℓ) (c : Dev nD) : res_out4 m c
    = moOf (expOf (logitsOf (memQOf (uOf (m ((c.tc : Thread nD τ).loc main_arg0)) (m ((c.tc : Thread nD τ).loc main_arg2)) (m ((c.tc : Thread nD τ).loc main_arg4))))
          (m ((c.tc : Thread nD τ).loc main_arg7)) (memKOf (m ((c.tc : Thread nD τ).loc main_arg5))))
        (maxOf (logitsOf (memQOf (uOf (m ((c.tc : Thread nD τ).loc main_arg0)) (m ((c.tc : Thread nD τ).loc main_arg2)) (m ((c.tc : Thread nD τ).loc main_arg4))))
          (m ((c.tc : Thread nD τ).loc main_arg7)) (memKOf (m ((c.tc : Thread nD τ).loc main_arg5))))))
      (memVOf (m ((c.tc : Thread nD τ).loc main_arg6)))
      (uOf (m ((c.tc : Thread nD τ).loc main_arg0)) (m ((c.tc : Thread nD τ).loc main_arg2)) (m ((c.tc : Thread nD τ).loc main_arg4))) := rfl

end Cert.Proj.Ref

end
-- ==== Proof.ProjFrame.lean ====
module

public import proofs.«01_k».proof.Proof.ProjPoints
public import proofs.«01_k».proof.Proof.Gen.Reference2Ideal.Run
public import proofs.«01_k».proof.Proof.Pre
public import proofs.«01_k».proof.Proof.Gen.Pre_all_finite2
public import Idealize.ShloMosaic.Lib.Quiescent

@[expose] public section

/-!
# The projections' frame and precondition

The second reference ends, its arguments and its counters untouched; the precondition makes the arguments real.
-/

open Idealize.ShloMosaic Idealize.ShloMosaic.TcCoe Idealize.ShloMosaic.StableHlo Idealize.SL.Sem
open Cert.Layer.Pre (real_of_all and_split)

set_option maxRecDepth 16384
set_option maxHeartbeats 1000000

noncomputable section

namespace Cert.Proj.Main

/-- Under the precondition, the arguments the memory's logits depend on are real. -/
theorem finite (m : (ℓ : Loc Cert.Kernel2Ideal.nD Cert.Kernel2Ideal.τ Cert.Kernel2Ideal.sig) → Buf (Elt Ideal) ℓ)
    (hm : haveI := Cert.Pre_all_finite2.Gen.facts; Cert.Pre_Kernel2Ideal_all_finite2 m) (c : Dev Cert.Kernel2Ideal.nD) : (Body.args m c).Finite := by
  have h := congrFun (hm c) ix0
  unfold Cert.Pre_all_finite2.fn Cert.Pre_all_finite2.fn_part1 at h
  obtain ⟨h, hgq⟩ := and_split h
  obtain ⟨h, hkt⟩ := and_split h
  obtain ⟨h, hwin⟩ := and_split h
  obtain ⟨hx, hgn⟩ := and_split h
  exact
    { x := fun b t d => real_of_all _ _ _ _ _ _ (fun _ => rfl) hx (ix3 b t d)
      gn := fun d => real_of_all _ _ _ _ _ _ (fun _ => rfl) hgn (ix2 0 d)
      win := fun d j => real_of_all _ _ _ _ _ _ (fun _ => rfl) hwin (ix3 0 d j)
      kt := fun b d s => real_of_all _ _ _ _ _ _ (fun _ => rfl) hkt (ix4 1 b d s)
      gq := fun d => real_of_all _ _ _ _ _ _ (fun _ => rfl) hgq (ix2 1 d) }

/-- The reference ends, its arguments kept and no counter left. -/
theorem reference_frame : haveI := Cert.Reference2Ideal.Gen.facts; Cert.quiescent_Reference2Ideal := fun m g _ =>
  (θ_run _ _ _).mono (fun r h => ⟨fun c => (h c).2.2.2.2.2, sem_eq_zero_of_no_sems (by decide) _⟩) (Cert.Reference2Ideal.Value.run m g)

/-- No constant is named: the kernel is its own ideal copy. -/
theorem preserves : Cert.preserves_Kernel2_Kernel2Ideal := trivial

end Cert.Proj.Main

end
-- ==== Proof.ProjMain.lean ====
module

public import proofs.«01_k».proof.Proof.ProjRef
public import proofs.«01_k».proof.Proof.ProjFrame

@[expose] public section

/-!
# The projections' claims

From memories agreeing on the arguments, the second kernel and its reference end with the same results.
-/

open Idealize.ShloMosaic Idealize.ShloMosaic.TcCoe Idealize.ShloMosaic.StableHlo Idealize.SL.Sem

set_option maxRecDepth 16384
set_option maxHeartbeats 1000000

noncomputable section

namespace Cert.Proj.Main

/-- The queries as an array. -/
def Q (A : Args) : FVec Ideal ⟨3, ![2, 8192, 1024]⟩ .bf16 := fun i => A.q (i 0) (i 1) (i 2)
/-- The keys as an array. -/
def K (A : Args) : FVec Ideal ⟨3, ![2, 8192, 1024]⟩ .bf16 := fun i => A.k (i 0) (i 1) (i 2)
/-- The values as an array. -/
def W (A : Args) : FVec Ideal ⟨3, ![2, 8192, 1024]⟩ .bf16 := fun i => A.v (i 0) (i 1) (i 2)
/-- The gate as an array. -/
def G (A : Args) : FVec Ideal ⟨3, ![2, 8192, 1024]⟩ .bf16 := fun i => A.gate (i 0) (i 1) (i 2)
/-- The gated memory output as an array. -/
def M (A : Args) : FVec Ideal ⟨3, ![2, 8192, 512]⟩ .bf16 := fun i => A.mo (i 0) (i 1) (i 2)

/-- The kernel's result arrays after its run, as arrays of the arguments. -/
theorem kernel_results (m : (ℓ : Loc Cert.Kernel2Ideal.nD Cert.Kernel2Ideal.τ Cert.Kernel2Ideal.sig) → Buf (Elt Ideal) ℓ) (c : Dev Cert.Kernel2Ideal.nD) :
    (Cert.Kernel2Ideal.Gen.dats m 0 c).arrAt 8 Cert.Kernel2Ideal.cfg0.N = Q (Body.args m c)
    ∧ (Cert.Kernel2Ideal.Gen.dats m 0 c).arrAt 9 Cert.Kernel2Ideal.cfg0.N = K (Body.args m c)
    ∧ (Cert.Kernel2Ideal.Gen.dats m 0 c).arrAt 10 Cert.Kernel2Ideal.cfg0.N = W (Body.args m c)
    ∧ (Cert.Kernel2Ideal.Gen.dats m 0 c).arrAt 11 Cert.Kernel2Ideal.cfg0.N = G (Body.args m c)
    ∧ (Cert.Kernel2Ideal.Gen.dats m 0 c).arrAt 12 Cert.Kernel2Ideal.cfg0.N = M (Body.args m c) :=
  ⟨Body.final_q m c, Body.final_k m c, Body.final_v m c, Body.final_gate m c, Body.final_mo m c⟩

section
open Cert.Reference2Ideal Cert.Proj.Ref

/-- The reference's arguments. -/
def refArgs (m : (ℓ : Loc nD τ sig) → Buf (Elt Ideal) ℓ) (c : Dev nD) : Args :=
  Body.argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

theorem ref_q (m : (ℓ : Loc nD τ sig) → Buf (Elt Ideal) ℓ) (c : Dev nD) :
    qOf (uOf (m ((c.tc : Thread nD τ).loc main_arg0)) (m ((c.tc : Thread nD τ).loc main_arg2)) (m ((c.tc : Thread nD τ).loc main_arg4))) = Q (refArgs m c) :=
  q_eq _ _ _ _ _ _ _ _

theorem ref_k (m : (ℓ : Loc nD τ sig) → Buf (Elt Ideal) ℓ) (c : Dev nD) :
    kOf (kvOf (m ((c.tc : Thread nD τ).loc main_arg0)) (m ((c.tc : Thread nD τ).loc main_arg1)) (m ((c.tc : Thread nD τ).loc main_arg3))) = K (refArgs m c) :=
  k_eq _ _ _ _ _ _ _ _

theorem ref_v (m : (ℓ : Loc nD τ sig) → Buf (Elt Ideal) ℓ) (c : Dev nD) :
    vOf (kvOf (m ((c.tc : Thread nD τ).loc main_arg0)) (m ((c.tc : Thread nD τ).loc main_arg1)) (m ((c.tc : Thread nD τ).loc main_arg3))) = W (refArgs m c) :=
  v_eq _ _ _ _ _ _ _ _

theorem ref_gate (m : (ℓ : Loc nD τ sig) → Buf (Elt Ideal) ℓ) (c : Dev nD) :
    gateOf (uOf (m ((c.tc : Thread nD τ).loc main_arg0)) (m ((c.tc : Thread nD τ).loc main_arg2)) (m ((c.tc : Thread nD τ).loc main_arg4))) = G (refArgs m c) :=
  gate_eq _ _ _ _ _ _ _ _

theorem ref_mo (m : (ℓ : Loc nD τ sig) → Buf (Elt Ideal) ℓ) (c : Dev nD) (F : (refArgs m c).Finite) : Value.res_out4 m c = M (refArgs m c) :=
  (res4 m c).trans (mo_eq _ _ _ _ _ _ _ _ F)

end

/-- From memories agreeing on the arguments, both programs find the same arguments. -/
theorem args_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) :
    refArgs m' c = Body.args m c := by
  unfold Body.args
  rw [← h0, ← h1, ← h2, ← h3, ← h4, ← h5, ← h6, ← h7]
  rfl

attribute [local irreducible] Q K W G M

/-- The kernel's results and the reference's, from memories agreeing on the arguments, are the same. -/
theorem algebraic :
    haveI := Cert.Kernel2Ideal.Gen.facts; haveI := Cert.Reference2Ideal.Gen.facts; haveI := Cert.Pre_all_finite2.Gen.facts
    Cert.algebraic_Kernel2Ideal_Reference2Ideal_pre_all_finite2 := by
  intro m g m' g' hm hargs
  refine ⟨fun c => Q (Body.args m c), fun c => K (Body.args m c), fun c => W (Body.args m c), fun c => G (Body.args m c),
    fun c => M (Body.args m c), ?_, ?_⟩
  · refine (θ_run _ _ _).mono (fun r h c => ?_) (Cert.Kernel2Ideal.Value.run_blocks m g)
    obtain ⟨r0, r1, r2, r3, r4, ha⟩ := h c
    obtain ⟨k0, k1, k2, k3, k4⟩ := kernel_results m c
    exact ⟨r0.trans k0, r1.trans k1, r2.trans k2, r3.trans k3, r4.trans k4, ha⟩
  · refine (θ_run _ _ _).mono (fun r h c => ?_) (Cert.Reference2Ideal.Value.run m' g')
    obtain ⟨r0, r1, r2, r3, r4, ha⟩ := h c
    obtain ⟨a0, a1, a2, a3, a4, a5, a6, a7⟩ := hargs c
    have hA := args_eq m m' c a0 a1 a2 a3 a4 a5 a6 a7
    have F := finite m hm c
    exact ⟨r0.trans ((ref_q m' c).trans (congrArg Q hA)), r1.trans ((ref_k m' c).trans (congrArg K hA)), r2.trans ((ref_v m' c).trans (congrArg W hA)),
      r3.trans ((ref_gate m' c).trans (congrArg G hA)), r4.trans ((ref_mo m' c (hA ▸ F)).trans (congrArg M hA)), ha⟩

end Cert.Proj.Main

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_all_finite2
public import proofs.«01_k».proof.Proof.Gen.Kernel2Ideal.Value
public import proofs.«01_k».proof.Proof.Gen.Reference2Ideal.Run
public import proofs.«01_k».proof.Proof.Main
public import proofs.«01_k».proof.Proof.ProjMain
public import Idealize.ShloMosaic.Adequacy
public import Idealize.ShloMosaic.Init

@[expose] public section

noncomputable section

namespace Cert.Proof

open Idealize.ShloMosaic Idealize.SL.Sem Cert.Kernel

/-- The reference ends, its arguments kept and no counter left. -/
theorem reference_frame : haveI := Cert.ReferenceIdeal.Gen.facts; Cert.quiescent_ReferenceIdeal := fun m g _ =>
  (θ_run _ _ _).mono (fun r h => ⟨fun c => ⟨h.1 c _ (by decide), h.1 c _ (by decide), h.1 c _ (by decide), h.1 c _ (by decide), h.1 c _ (by decide),
    h.1 c _ (by decide), h.1 c _ (by decide), h.1 c _ (by decide), h.1 c _ (by decide), h.1 c _ (by decide), h.1 c _ (by decide), h.1 c _ (by decide)⟩, h.2⟩)
    (Cert.Layer.Ref.frame m g)

/-- The claims, of the two calls: the frames of each kernel, of its ideal copy and of its reference; the named constants; equal results. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_all_finite.Gen.facts, Cert.Pre_all_finite2.Gen.facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.Kernel2.Gen.frame m g, fun m g _ => Cert.Kernel2Ideal.Gen.frame m g, fun m g _ => Cert.Kernel2Ideal.Gen.frame m g,
    Cert.Proj.Main.reference_frame, fun m g _ => Cert.Proj.Main.reference_frame m g trivial,
    Cert.Layer.Main.preserves, Cert.Layer.Main.algebraic, Cert.Proj.Main.preserves, Cert.Proj.Main.algebraic⟩

end Cert.Proof

end
